-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_range [hPre_bf16_range : Cert.Pre_bf16_range.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_range [hPre_bf16_range : Cert.Pre_bf16_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_bf16_range [hKernelIdeal : Cert.KernelIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_bf16_range [hReferenceIdeal : Cert.ReferenceIdeal.Facts] [hPre_bf16_range : Cert.Pre_bf16_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_bf16_range [hKernelIdeal : Cert.KernelIdeal.Facts] [hReferenceIdeal : Cert.ReferenceIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_bf16_range : Cert.Pre_bf16_range.Facts),
    quiescent_Kernel (hKernel := hKernel)
    ∧ quiescent_KernelIdeal (hKernelIdeal := hKernelIdeal)
    ∧ quiescent_KernelIdeal_pre_bf16_range (hKernelIdeal := hKernelIdeal) (hPre_bf16_range := hPre_bf16_range)
    ∧ quiescent_ReferenceIdeal (hReferenceIdeal := hReferenceIdeal)
    ∧ quiescent_ReferenceIdeal_pre_bf16_range (hReferenceIdeal := hReferenceIdeal) (hPre_bf16_range := hPre_bf16_range)
    ∧ preserves_Kernel_KernelIdeal
    ∧ algebraic_KernelIdeal_ReferenceIdeal_pre_bf16_range (hKernelIdeal := hKernelIdeal) (hReferenceIdeal := hReferenceIdeal) (hPre_bf16_range := hPre_bf16_range)
-- ==== Pre_bf16_range.lean ====
abbrev S96x1x1024 : Shape := ⟨3, ![96, 1, 1024]⟩
abbrev S1024x20480 : Shape := ⟨2, ![1024, 20480]⟩
abbrev S20480 : Shape := ⟨1, ![20480]⟩
abbrev S20480x512 : Shape := ⟨2, ![20480, 512]⟩
abbrev S1024 : Shape := ⟨1, ![1024]⟩
abbrev S_ : Shape := ⟨0, ![]⟩

class Facts : Prop where
  bitsLt_bf16_f32 : FTy.bits .bf16 < FTy.bits .f32
  bcast_S_S96x1x1024 : S_.BroadcastsInDim S96x1x1024 (![] : Fin 0 → Fin S96x1x1024.rank)

variable [Facts]

def fn {F : FTy → Type} [FloatOps F] (main_arg0 : FVec F S96x1x1024 .bf16) (main_arg1 : FVec F S1024x20480 .fp8e4m3) (main_arg2 : FVec F S20480 .f32) (main_arg3 : FVec F S20480 .f32) (main_arg4 : IVec S20480x512 8) (main_arg5 : FVec F S1024 .f32) : IVec S96x1x1024 1 :=
  let main_v0 : FVec F S96x1x1024 .f32 := (extf .f32 · bitsLt_bf16_f32) main_arg0
  let main_v1 : FVec F S96x1x1024 .f32 := Host.absf main_v0
  let main_cst : FVec F S_ .f32 := constant S_ .f32 0x7F7F0000#32
  let main_v2 : FVec F S96x1x1024 .f32 := broadcastInDim S96x1x1024 ![] bcast_S_S96x1x1024 main_cst
  let main_v3 : IVec S96x1x1024 1 := cmpf .ole main_v1 main_v2
  let main_cst_0 : FVec F S_ .f32 := constant S_ .f32 0x7F800000#32
  let main_v4 : FVec F S96x1x1024 .f32 := broadcastInDim S96x1x1024 ![] bcast_S_S96x1x1024 main_cst_0
  let main_v5 : IVec S96x1x1024 1 := cmpf .oeq main_v1 main_v4
  let main_v6 : IVec S96x1x1024 1 := ori main_v3 main_v5
  main_v6
-- ==== Kernel.lean ====
abbrev S96x1x1024 : Shape := ⟨3, ![96, 1, 1024]⟩
abbrev S1024x20480 : Shape := ⟨2, ![1024, 20480]⟩
abbrev S20480 : Shape := ⟨1, ![20480]⟩
abbrev S20480x512 : Shape := ⟨2, ![20480, 512]⟩
abbrev S1024 : Shape := ⟨1, ![1024]⟩
abbrev S96x1024 : Shape := ⟨2, ![96, 1024]⟩
abbrev S1x20480 : Shape := ⟨2, ![1, 20480]⟩
abbrev S1x1024 : Shape := ⟨2, ![1, 1024]⟩
abbrev S96x20480 : Shape := ⟨2, ![96, 20480]⟩
abbrev S1x96 : Shape := ⟨2, ![1, 96]⟩
abbrev S1024x2048 : Shape := ⟨2, ![1024, 2048]⟩
abbrev S1x2048 : Shape := ⟨2, ![1, 2048]⟩
abbrev S2048x512 : Shape := ⟨2, ![2048, 512]⟩
abbrev S96x2048 : Shape := ⟨2, ![96, 2048]⟩
abbrev S96x128 : Shape := ⟨2, ![96, 128]⟩
abbrev S96x512 : Shape := ⟨2, ![96, 512]⟩
abbrev S96 : Shape := ⟨1, ![96]⟩
abbrev S96x1 : Shape := ⟨2, ![96, 1]⟩
abbrev S128x96 : Shape := ⟨2, ![128, 96]⟩
abbrev S512x512 : Shape := ⟨2, ![512, 512]⟩
abbrev S96x128x1 : Shape := ⟨3, ![96, 128, 1]⟩
abbrev S1x128 : Shape := ⟨2, ![1, 128]⟩

abbrev nBuf : Space → Nat
  | .hbm => 14
  | .vmem => 18
  | .smem => 0
  | _ => 0

abbrev bufTy : (tb : Table) → Fin (tcTables nBuf tb) → BufTy
  | .hbm, ⟨0, _⟩ => ⟨S96x1x1024, .bf16⟩
  | .hbm, ⟨1, _⟩ => ⟨S1024x20480, .fp8e4m3⟩
  | .hbm, ⟨2, _⟩ => ⟨S20480, .f32⟩
  | .hbm, ⟨3, _⟩ => ⟨S20480, .f32⟩
  | .hbm, ⟨4, _⟩ => ⟨S20480x512, .i8⟩
  | .hbm, ⟨5, _⟩ => ⟨S1024, .f32⟩
  | .hbm, ⟨6, _⟩ => ⟨S96x1024, .bf16⟩
  | .hbm, ⟨7, _⟩ => ⟨S1x20480, .f32⟩
  | .hbm, ⟨8, _⟩ => ⟨S1x20480, .f32⟩
  | .hbm, ⟨9, _⟩ => ⟨S1x1024, .f32⟩
  | .hbm, ⟨10, _⟩ => ⟨S96x1024, .bf16⟩
  | .hbm, ⟨11, _⟩ => ⟨S96x20480, .bf16⟩
  | .hbm, ⟨12, _⟩ => ⟨S96x1024, .fp8e4m3⟩
  | .hbm, ⟨13, _⟩ => ⟨S1x96, .f32⟩
  | .local _ .vmem, ⟨0, _⟩ => ⟨S96x1024, .bf16⟩
  | .local _ .vmem, ⟨1, _⟩ => ⟨S1024x2048, .fp8e4m3⟩
  | .local _ .vmem, ⟨2, _⟩ => ⟨S1024x2048, .fp8e4m3⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S2048x512, .i8⟩
  | .local _ .vmem, ⟨8, _⟩ => ⟨S2048x512, .i8⟩
  | .local _ .vmem, ⟨9, _⟩ => ⟨S1x1024, .f32⟩
  | .local _ .vmem, ⟨10, _⟩ => ⟨S96x1024, .bf16⟩
  | .local _ .vmem, ⟨11, _⟩ => ⟨S96x2048, .bf16⟩
  | .local _ .vmem, ⟨12, _⟩ => ⟨S96x2048, .bf16⟩
  | .local _ .vmem, ⟨13, _⟩ => ⟨S96x1024, .fp8e4m3⟩
  | .local _ .vmem, ⟨14, _⟩ => ⟨S1x96, .f32⟩
  | .local _ .vmem, ⟨15, _⟩ => ⟨S96x128, .f32⟩
  | .local _ .vmem, ⟨16, _⟩ => ⟨S96x512, .f32⟩
  | .local _ .vmem, ⟨17, _⟩ => ⟨S96x512, .f32⟩
  | _, _ => ⟨S96x1x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v46 : BitVec 1 := Scalar.cmpi .eq arg0 c9_i32
  let v47 : BitVec 32 := Scalar.extui v46
  let c0_i32_26 : BitVec 32 := 0#32
  let v48 : BitVec 1 := Scalar.cmpi .ne v47 c0_i32_26
  v48

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S96x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S96x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S96x1x1024 : Shape := ⟨3, ![96, 1, 1024]⟩
abbrev S1024x20480 : Shape := ⟨2, ![1024, 20480]⟩
abbrev S20480 : Shape := ⟨1, ![20480]⟩
abbrev S20480x512 : Shape := ⟨2, ![20480, 512]⟩
abbrev S1024 : Shape := ⟨1, ![1024]⟩
abbrev S96x1024 : Shape := ⟨2, ![96, 1024]⟩
abbrev S1x20480 : Shape := ⟨2, ![1, 20480]⟩
abbrev S1x1024 : Shape := ⟨2, ![1, 1024]⟩
abbrev S96x20480 : Shape := ⟨2, ![96, 20480]⟩
abbrev S1x96 : Shape := ⟨2, ![1, 96]⟩
abbrev S96 : Shape := ⟨1, ![96]⟩
abbrev S96x1 : Shape := ⟨2, ![96, 1]⟩
abbrev S96x512 : Shape := ⟨2, ![96, 512]⟩
abbrev S96x512x1 : Shape := ⟨3, ![96, 512, 1]⟩
abbrev S96x512x2 : Shape := ⟨3, ![96, 512, 2]⟩

abbrev nBuf : Space → Nat
  | .hbm => 14
  | .vmem => 10
  | .smem => 0
  | _ => 0

abbrev bufTy : (tb : Table) → Fin (tcTables nBuf tb) → BufTy
  | .hbm, ⟨0, _⟩ => ⟨S96x1x1024, .bf16⟩
  | .hbm, ⟨1, _⟩ => ⟨S1024x20480, .fp8e4m3⟩
  | .hbm, ⟨2, _⟩ => ⟨S20480, .f32⟩
  | .hbm, ⟨3, _⟩ => ⟨S20480, .f32⟩
  | .hbm, ⟨4, _⟩ => ⟨S20480x512, .i8⟩
  | .hbm, ⟨5, _⟩ => ⟨S1024, .f32⟩
  | .hbm, ⟨6, _⟩ => ⟨S96x1024, .bf16⟩
  | .hbm, ⟨7, _⟩ => ⟨S1x20480, .f32⟩
  | .hbm, ⟨8, _⟩ => ⟨S1x20480, .f32⟩
  | .hbm, ⟨9, _⟩ => ⟨S1x1024, .f32⟩
  | .hbm, ⟨10, _⟩ => ⟨S96x1024, .bf16⟩
  | .hbm, ⟨11, _⟩ => ⟨S96x20480, .bf16⟩
  | .hbm, ⟨12, _⟩ => ⟨S96x1024, .fp8e4m3⟩
  | .hbm, ⟨13, _⟩ => ⟨S1x96, .f32⟩
  | .local _ .vmem, ⟨0, _⟩ => ⟨S96x1024, .bf16⟩
  | .local _ .vmem, ⟨1, _⟩ => ⟨S1024x20480, .fp8e4m3⟩
  | .local _ .vmem, ⟨2, _⟩ => ⟨S1x20480, .f32⟩
  | .local _ .vmem, ⟨3, _⟩ => ⟨S1x20480, .f32⟩
  | .local _ .vmem, ⟨4, _⟩ => ⟨S20480x512, .i8⟩
  | .local _ .vmem, ⟨5, _⟩ => ⟨S1x1024, .f32⟩
  | .local _ .vmem, ⟨6, _⟩ => ⟨S96x1024, .bf16⟩
  | .local _ .vmem, ⟨7, _⟩ => ⟨S96x20480, .bf16⟩
  | .local _ .vmem, ⟨8, _⟩ => ⟨S96x1024, .fp8e4m3⟩
  | .local _ .vmem, ⟨9, _⟩ => ⟨S1x96, .f32⟩
  | _, _ => ⟨S96x1x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S96x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x20480 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x20480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x20480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20480x512 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x20480 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S96x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.Body.lean ====
/-
The kernel's body as three triples, one for each kind of grid point, with what it leaves in every buffer written
as an explicit function of what it finds there. Nothing here depends on what a float is.
-/
module

public import proofs.«01_k».proof.Proof.Gen.Kernel.Skeleton
public import Idealize.ShloMosaic.Lib.Pipeline.Value
public import proofs.«01_k».proof.Proof.Gen.Kernel.Frame

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## What the buffers hold -/

/-- The activation codes: the quantiser's output on the activation block. -/
def codesOf (x : Vec F S96x1024 .bf16) : Vec F S96x1024 .fp8e4m3 :=
  k0_pay35 (k0_pay11 (k0_pay4 x) (k0_pay5 x) (k0_pay6 x) (k0_pay7 x) (k0_pay8 x))
    (Scalar.ofBits .f32 0xC3E00000#32) (Scalar.ofBits .f32 0x43E00000#32)

/-- The token scales, spread over the lanes. -/
def lanesOf (x : Vec F S96x1024 .bf16) : Vec F S96x128 .f32 :=
  k0_pay36 (k0_pay10 (k0_pay5 x) (k0_pay6 x) (k0_pay7 x) (k0_pay8 x))

/-- The token scales as a row. -/
def scalesOf (x : Vec F S96x1024 .bf16) : Vec F S1x96 .f32 :=
  k0_pay37 (k0_pay10 (k0_pay5 x) (k0_pay6 x) (k0_pay7 x) (k0_pay8 x))

/-- The first column of the spread scales: one scale a token. -/
def colOf (s : Vec F S96x128 .f32) : Vec F S96x1 .f32 :=
  View.ld (Val := Elt F) (e' := .f32) s (Rect.unit (s := S96x128) ![0, 0] S96x1.size inb_S96x128_S96x1_0_0)

/-- A tile of hidden activations. -/
def hidOf (q : Vec F S96x1024 .fp8e4m3) (s : Vec F S96x128 .f32) (w : Vec F S1024x2048 .fp8e4m3) (ws b : Vec F S1x2048 .f32) :
    Vec F S96x2048 .bf16 :=
  k0_pay40 q w (colOf s) ws b

/-- The even columns' accumulator after a tile. -/
def evenStep (h : Vec F S96x2048 .bf16) (wd : Vec F S2048x512 .i8) (acc : Vec F S96x512 .f32) : Vec F S96x512 .f32 :=
  k0_pay1 h (k0_pay42 wd) acc

/-- The odd columns' accumulator after a tile. -/
def oddStep (h : Vec F S96x2048 .bf16) (wd : Vec F S2048x512 .i8) (acc : Vec F S96x512 .f32) : Vec F S96x512 .f32 :=
  k0_pay2 h (k0_pay43 wd) acc

/-- A 128-column piece of an accumulator. -/
def cut (acc : Vec F S96x512 .f32) (o : ℕ) (inb : ∀ a, (![0, o] : Fin 2 → ℕ) a + S96x128.size a ≤ S96x512.size a) : Vec F S96x128 .f32 :=
  View.ld (Val := Elt F) (e' := .f32) acc (Rect.unit (s := S96x512) ![0, o] S96x128.size inb)

/-- A 128-column piece of the output scales. -/
def cutS (w : Vec F S1x1024 .f32) (o : ℕ) (inb : ∀ a, (![0, o] : Fin 2 → ℕ) a + S1x128.size a ≤ S1x1024.size a) : Vec F S1x128 .f32 :=
  View.ld (Val := Elt F) (e' := .f32) w (Rect.unit (s := S1x1024) ![0, o] S1x128.size inb)

/-- One 128-column piece of the output: the two accumulators' columns interleaved, the nibbles' factor of sixteen
    taken back out, the output scales multiplied in. `s` says which half of the accumulators' piece is read. -/
def chunk (s : BitVec 32) (e o : Vec F S96x128 .f32) (w : Vec F S1x128 .f32) : Vec F S96x128 .bf16 :=
  have l : IVec S96x128 32 := iota .tc S96x128 32 [1] iota_S96x128_d1_w32
  have p : IVec S96x128 32 := addi (shrsi l (broadcast S96x128 1#32)) (broadcast S96x128 s)
  have q : IVec S96x128 32 := select (cmpi .slt p (broadcast S96x128 0#32)) (addi p (broadcast S96x128 128#32)) p
  have g : IVec S96x128 32 := shapeCast S96x128 (shapeCast S96x128x1 q shapeCasts_S96x128_S96x128x1) shapeCasts_S96x128x1_S96x128
  have ev : IVec S96x128 1 := cmpi .eq (andi l (broadcast S96x128 1#32)) (broadcast S96x128 0#32)
  have v : FVec F S96x128 .f32 := select ev (dynamicGather 1 e g) (dynamicGather 1 o g)
  truncf .bf16 (mulf (mulf v (broadcast S96x128 (Scalar.ofBits .f32 0x3D800000#32 : F .f32)))
    (broadcastTo S96x128 (shapeCast S1x128 w shapeCasts_S1x128_S1x128) broadcasts_S1x128_S96x128)) bitsLt_bf16_f32

/-- The output's eight pieces, the last stored first. -/
def pieces (e o : Vec F S96x512 .f32) (w : Vec F S1x1024 .f32) : List (View.Piece (Elt F) S96x1024 .bf16) :=
  [
   ⟨Rect.unit (s := S96x1024) ![0, 896] S96x128.size inb_S96x1024_S96x128_0_896,
      chunk 64#32 (cut e 384 inb_S96x512_S96x128_0_384) (cut o 384 inb_S96x512_S96x128_0_384) (cutS w 896 inb_S1x1024_S1x128_0_896)⟩,
   ⟨Rect.unit (s := S96x1024) ![0, 768] S96x128.size inb_S96x1024_S96x128_0_768,
      chunk 0#32 (cut e 384 inb_S96x512_S96x128_0_384) (cut o 384 inb_S96x512_S96x128_0_384) (cutS w 768 inb_S1x1024_S1x128_0_768)⟩,
   ⟨Rect.unit (s := S96x1024) ![0, 640] S96x128.size inb_S96x1024_S96x128_0_640,
      chunk 64#32 (cut e 256 inb_S96x512_S96x128_0_256) (cut o 256 inb_S96x512_S96x128_0_256) (cutS w 640 inb_S1x1024_S1x128_0_640)⟩,
   ⟨Rect.unit (s := S96x1024) ![0, 512] S96x128.size inb_S96x1024_S96x128_0_512,
      chunk 0#32 (cut e 256 inb_S96x512_S96x128_0_256) (cut o 256 inb_S96x512_S96x128_0_256) (cutS w 512 inb_S1x1024_S1x128_0_512)⟩,
   ⟨Rect.unit (s := S96x1024) ![0, 384] S96x128.size inb_S96x1024_S96x128_0_384,
      chunk 64#32 (cut e 128 inb_S96x512_S96x128_0_128) (cut o 128 inb_S96x512_S96x128_0_128) (cutS w 384 inb_S1x1024_S1x128_0_384)⟩,
   ⟨Rect.unit (s := S96x1024) ![0, 256] S96x128.size inb_S96x1024_S96x128_0_256,
      chunk 0#32 (cut e 128 inb_S96x512_S96x128_0_128) (cut o 128 inb_S96x512_S96x128_0_128) (cutS w 256 inb_S1x1024_S1x128_0_256)⟩,
   ⟨Rect.unit (s := S96x1024) ![0, 128] S96x128.size inb_S96x1024_S96x128_0_128,
      chunk 64#32 (cut e 0 inb_S96x512_S96x128_0_0) (cut o 0 inb_S96x512_S96x128_0_0) (cutS w 128 inb_S1x1024_S1x128_0_128)⟩,
   ⟨Rect.unit (s := S96x1024) ![0, 0] S96x128.size inb_S96x1024_S96x128_0_0,
      chunk 0#32 (cut e 0 inb_S96x512_S96x128_0_0) (cut o 0 inb_S96x512_S96x128_0_0) (cutS w 0 inb_S1x1024_S1x128_0_0)⟩]

/-- The pieces cover the output. -/
theorem pieces_cover (e o : Vec F S96x512 .f32) (w : Vec F S1x1024 .f32) (y : S96x1024.Idx) : ∃ p ∈ pieces e o w, y ∈ p.1.set :=
  View.cover_of_tiledL (pieces e o w) S96x128.size (by sl_kernel_rfl) y

/-- The output block. -/
def outOf (e o : Vec F S96x512 .f32) (w : Vec F S1x1024 .f32) : Vec F S96x1024 .bf16 := View.canon (pieces e o w)

/-! ## Reading whole buffers back -/

theorem zero2 : (![0, 0] : Fin 2 → ℕ) = fun _ => 0 := by funext a; fin_cases a <;> rfl

theorem rd {sp : Space} {s : Shape} {e : EltTy} {r : Memref sig .tc sp s e} (h : r.IsWhole) (X : s.Idx → Elt F e) (R : Rect s) :
    r.view.readAt (Elt F) R.toLoadRect (h.unread X) = View.ld X R := by
  rw [View.readAt_eq_ld, h.read_unread]

theorem rdW {sp : Space} {d : Fin 2 → ℕ} {e : EltTy} {r : Memref sig .tc sp ⟨2, d⟩ e} (h : r.IsWhole)
    (X : (⟨2, d⟩ : Shape).Idx → Elt F e) (inb : ∀ a, (![0, 0] : Fin 2 → ℕ) a + d a ≤ d a) :
    r.view.readAt (Elt F) (Rect.unit (s := ⟨2, d⟩) ![0, 0] d inb).toLoadRect (h.unread X) = X :=
  (rd h X _).trans (View.ld_unit_zero (S := ⟨2, d⟩) zero2 inb X)

theorem rcG {sp : Space} {S : Shape} {e : EltTy} (v : View sig .tc sp S e) {off : Fin S.rank → ℕ} (h0 : off = fun _ => 0)
    (inb : ∀ a, off a + S.size a ≤ S.size a) (w : S.Idx → Elt F e) (L : List (View.Piece (Elt F) S e)) (R : Rect S) :
    v.readCov ((⟨Rect.unit off S.size inb, w⟩ : View.Piece (Elt F) S e) :: L) R.toLoadRect = View.ld w R := by
  rw [View.readCov_eq_canon_ld _ _ _ (fun y => ⟨⟨Rect.unit off S.size inb, w⟩, List.mem_cons_self, View.mem_set_unit_zero h0 inb y⟩),
    View.canon_cons_unit_zero h0 inb w L]

theorem wrG {sp : Space} {S : Shape} {e : EltTy} (v : View sig .tc sp S e) (f : v.ty.Contents (Elt F)) {off : Fin S.rank → ℕ} (h0 : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨⟨Rect.unit off S.size inb, w⟩, List.mem_cons_self, View.mem_set_unit_zero h0 inb y⟩),
    View.canon_cons_unit_zero h0 inb w L]

theorem rcW {sp : Space} {d : Fin 2 → ℕ} {e : EltTy} (v : View sig .tc sp ⟨2, d⟩ e) (inb : ∀ a, (![0, 0] : Fin 2 → ℕ) a + d a ≤ d a)
    (w : (⟨2, d⟩ : Shape).Idx → Elt F e) (L : List (View.Piece (Elt F) ⟨2, d⟩ e)) (R : Rect ⟨2, d⟩) :
    v.readCov ((⟨Rect.unit (s := ⟨2, d⟩) ![0, 0] d inb, w⟩ : View.Piece (Elt F) ⟨2, d⟩ e) :: L) R.toLoadRect = View.ld w R :=
  rcG (S := ⟨2, d⟩) v zero2 inb w L R

theorem wrW {sp : Space} {d : Fin 2 → ℕ} {e : EltTy} (v : View sig .tc sp ⟨2, d⟩ e) (f : v.ty.Contents (Elt F)) (inb : ∀ a, (![0, 0] : Fin 2 → ℕ) a + d a ≤ d a)
    (w : (⟨2, d⟩ : Shape).Idx → Elt F e) (L : List (View.Piece (Elt F) ⟨2, d⟩ e)) :
    v.read (Elt F) (v.writes (Elt F) f ((⟨Rect.unit (s := ⟨2, d⟩) ![0, 0] d inb, w⟩ : View.Piece (Elt F) ⟨2, d⟩ e) :: L)) = w :=
  wrG (S := ⟨2, d⟩) v f zero2 inb w L

theorem ldW {d : Fin 2 → ℕ} {e : EltTy} (X : (⟨2, d⟩ : Shape).Idx → Elt F e) (inb : ∀ a, (![0, 0] : Fin 2 → ℕ) a + d a ≤ d a) :
    View.ld X (Rect.unit (s := ⟨2, d⟩) ![0, 0] d inb) = X := View.ld_unit_zero (S := ⟨2, d⟩) zero2 inb X

/-! ## The triples -/

variable (c : Dev nD) (i : grid0.Coords)
  (arg1 : Memref sig .tc .vmem S96x1024 .bf16) (harg1 : arg1.IsWhole)
  (arg2 : Memref sig .tc .vmem S1024x2048 .fp8e4m3) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S2048x512 .i8) (harg5 : arg5.IsWhole)
  (arg6 : Memref sig .tc .vmem S1x1024 .f32) (harg6 : arg6.IsWhole)
  (arg7 : Memref sig .tc .vmem S96x1024 .bf16) (harg7 : arg7.IsWhole)
  (arg8 : Memref sig .tc .vmem S96x2048 .bf16) (harg8 : arg8.IsWhole)
  (arg9 : Memref sig .tc .vmem S96x1024 .fp8e4m3) (harg9 : arg9.IsWhole)
  (arg10 : Memref sig .tc .vmem S1x96 .f32) (harg10 : arg10.IsWhole)
  (arg11 : Memref sig .tc .vmem S96x128 .f32) (harg11 : arg11.IsWhole)
  (arg12 : Memref sig .tc .vmem S96x512 .f32) (harg12 : arg12.IsWhole)
  (arg13 : Memref sig .tc .vmem S96x512 .f32) (harg13 : arg13.IsWhole)
  (x0 : Vec F S96x1024 .bf16) (x1 : Vec F S1024x2048 .fp8e4m3) (x2 x3 : Vec F S1x2048 .f32) (x4 : Vec F S2048x512 .i8) (x5 : Vec F S1x1024 .f32)
  (x6 : Vec F S96x1024 .bf16)
  (q : Vec F S96x1024 .fp8e4m3) (sr : Vec F S1x96 .f32) (sl : Vec F S96x128 .f32) (ev od : Vec F S96x512 .f32)

set_option maxHeartbeats 4000000 in
/-- The first point: quantise, clear the accumulators, then a tile. -/
theorem bodyA (hc0 : k0_cond1 i = 1#1) (hc1 : ¬k0_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hidOf (codesOf x0) (lanesOf x0) x1 x2 x3) ∗ owns (c : Thread nD τ) arg9 fullShare (codesOf x0) ∗ owns (c : Thread nD τ) arg10 fullShare (scalesOf x0) ∗ owns (c : Thread nD τ) arg11 fullShare (lanesOf x0) ∗ owns (c : Thread nD τ) arg12 fullShare (evenStep (hidOf (codesOf x0) (lanesOf x0) x1 x2 x3) x4 k0_pay38) ∗ owns (c : Thread nD τ) arg13 fullShare (oddStep (hidOf (codesOf x0) (lanesOf x0) x1 x2 x3) x4 k0_pay39)) -∗ K ⟨⟩))
      ⊢ wp frame (wpE (defs₀ (F := F)) Variants.none c none) E (cc0_relu_mlp i arg1 harg1 arg2 harg2 arg3 harg3 arg4 harg4 arg5 harg5 arg6 harg6 arg7 harg7 arg8 harg8 arg9 harg9 arg10 harg10 arg11 harg11 arg12 harg12 arg13 harg13) K := by
  simp only [cc0_relu_mlp_eq_skeleton]; unfold cc0_relu_mlp_skel
  simp only [k0_part10_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  sl_unfold_words
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro
    simp only [wrW, rcW, rdW, rd, ldW]; rfl
  isplitl [H9]
  · iexists _; isplitr; swap; · iexact H9
    ipureintro
    simp only [wrW, rcW, rdW, rd, ldW]; rfl
  isplitl [H10]
  · iexists _; isplitr; swap; · iexact H10
    ipureintro
    simp only [wrW, rcW, rdW, rd, ldW]; rfl
  isplitl [H11]
  · iexists _; isplitr; swap; · iexact H11
    ipureintro
    simp only [wrW, rcW, rdW, rd, ldW]; rfl
  isplitl [H12]
  · iexists _; isplitr; swap; · iexact H12
    ipureintro
    simp only [wrW, rcW, rdW, rd, ldW]; rfl
  iexists _; isplitr; swap; · iexact H13
  ipureintro
  simp only [wrW, rcW, rdW, rd, ldW]; rfl

set_option maxHeartbeats 4000000 in
/-- A point between: a tile. -/
theorem bodyB (hc0 : ¬k0_cond1 i = 1#1) (hc1 : ¬k0_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare q ∗ owns (c : Thread nD τ) arg10 fullShare sr ∗ owns (c : Thread nD τ) arg11 fullShare sl ∗ owns (c : Thread nD τ) arg12 fullShare ev ∗ owns (c : Thread nD τ) arg13 fullShare od
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hidOf q sl x1 x2 x3) ∗ owns (c : Thread nD τ) arg9 fullShare q ∗ owns (c : Thread nD τ) arg10 fullShare sr ∗ owns (c : Thread nD τ) arg11 fullShare sl ∗ owns (c : Thread nD τ) arg12 fullShare (evenStep (hidOf q sl x1 x2 x3) x4 ev) ∗ owns (c : Thread nD τ) arg13 fullShare (oddStep (hidOf q sl x1 x2 x3) x4 od)) -∗ K ⟨⟩))
      ⊢ wp frame (wpE (defs₀ (F := F)) Variants.none c none) E (cc0_relu_mlp i arg1 harg1 arg2 harg2 arg3 harg3 arg4 harg4 arg5 harg5 arg6 harg6 arg7 harg7 arg8 harg8 arg9 harg9 arg10 harg10 arg11 harg11 arg12 harg12 arg13 harg13) K := by
  simp only [cc0_relu_mlp_eq_skeleton]; unfold cc0_relu_mlp_skel
  simp only [k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1)
  sl_step
  sl_unfold_words
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro
    simp only [wrW, rcW, rdW, rd, ldW]; rfl
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro
    simp only [wrW, rcW, rdW, rd, ldW]; rfl
  iexists _; isplitr; swap; · iexact H13
  ipureintro
  simp only [wrW, rcW, rdW, rd, ldW]; rfl

set_option maxHeartbeats 4000000 in
/-- The last point: a tile, then the output. -/
theorem bodyC (hc0 : ¬k0_cond1 i = 1#1) (hc1 : k0_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare q ∗ owns (c : Thread nD τ) arg10 fullShare sr ∗ owns (c : Thread nD τ) arg11 fullShare sl ∗ owns (c : Thread nD τ) arg12 fullShare ev ∗ owns (c : Thread nD τ) arg13 fullShare od
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outOf (evenStep (hidOf q sl x1 x2 x3) x4 ev) (oddStep (hidOf q sl x1 x2 x3) x4 od) x5) ∗ owns (c : Thread nD τ) arg8 fullShare (hidOf q sl x1 x2 x3) ∗ owns (c : Thread nD τ) arg9 fullShare q ∗ owns (c : Thread nD τ) arg10 fullShare sr ∗ owns (c : Thread nD τ) arg11 fullShare sl ∗ owns (c : Thread nD τ) arg12 fullShare (evenStep (hidOf q sl x1 x2 x3) x4 ev) ∗ owns (c : Thread nD τ) arg13 fullShare (oddStep (hidOf q sl x1 x2 x3) x4 od)) -∗ K ⟨⟩))
      ⊢ wp frame (wpE (defs₀ (F := F)) Variants.none c none) E (cc0_relu_mlp i arg1 harg1 arg2 harg2 arg3 harg3 arg4 harg4 arg5 harg5 arg6 harg6 arg7 harg7 arg8 harg8 arg9 harg9 arg10 harg10 arg11 harg11 arg12 harg12 arg13 harg13) K := by
  simp only [cc0_relu_mlp_eq_skeleton]; unfold cc0_relu_mlp_skel
  simp only [k0_part10_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1)
  sl_step
  sl_unfold_words
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro
    simp only [wrW, rcW, rdW, rd, ldW]; exact View.read_writes_eq_canon _ _ (pieces _ _ _) (pieces_cover _ _ _)
  isplitl [H8]
  · iexists _; isplitr; swap; · iexact H8
    ipureintro
    simp only [wrW, rcW, rdW, rd, ldW]; rfl
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro
    simp only [wrW, rcW, rdW, rd, ldW]; rfl
  iexists _; isplitr; swap; · iexact H13
  ipureintro
  simp only [wrW, rcW, rdW, rd, ldW]; rfl

end Cert.Kernel.Hand

end
-- ==== Proof.Kernel.Run.lean ====
/-
The pipeline's proof data — every buffer's contents after every grid point, as explicit functions of the blocks the
windows read — and the run of the whole program from them. Nothing here depends on what a float is.
-/
module

public import proofs.«01_k».proof.Proof.Gen.Kernel.Skeleton
public import proofs.«01_k».proof.Proof.Gen.Kernel.Frame
public import Idealize.ShloMosaic.Lib.Pipeline.Value
public import Idealize.ShloMosaic.Lib.Pipeline.TableIdle
public import Idealize.ShloMosaic.Lib.Claim
public import proofs.«01_k».proof.Proof.Kernel.Body

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points take which branch -/

theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 9 := by decide +kernel
theorem idle6 : ∀ t : Fin cfg0.N, cfg0.idle 6 (grid0.coords t) = !decide (t.val = 9) := by decide +kernel
theorem idle8 : ∀ t : Fin cfg0.N, cfg0.idle 8 (grid0.coords t) = !decide (t.val = 0) := by decide +kernel
theorem idle9 : ∀ t : Fin cfg0.N, cfg0.idle 9 (grid0.coords t) = !decide (t.val = 0) := by decide +kernel
theorem flush6 : ∀ t : Fin cfg0.N, (cfg0.win 6).flush t = decide (t.val = 9) := by decide +kernel
theorem flush8 : ∀ t : Fin cfg0.N, (cfg0.win 8).flush t = decide (t.val = 9) := by decide +kernel
theorem flush9 : ∀ t : Fin cfg0.N, (cfg0.win 9).flush t = decide (t.val = 9) := by decide +kernel

theorem fresh8 (t : Fin cfg0.N) (h : t.val ≠ 0) : cfg0.fresh 8 t.val = false :=
  (Cfg.fresh_tab cfg0 8 (fun n => decide (n = 0 ∨ n = 10)) (by decide) (by decide +kernel) t.val (Nat.le_of_lt t.isLt)).trans
    (by have : t.val < 10 := lt_of_lt_of_eq t.isLt (show cfg0.N = 10 from N_0); simp; omega)
theorem fresh9 (t : Fin cfg0.N) (h : t.val ≠ 0) : cfg0.fresh 9 t.val = false :=
  (Cfg.fresh_tab cfg0 9 (fun n => decide (n = 0 ∨ n = 10)) (by decide) (by decide +kernel) t.val (Nat.le_of_lt t.isLt)).trans
    (by have : t.val < 10 := lt_of_lt_of_eq t.isLt (show cfg0.N = 10 from N_0); simp; omega)

/-! ## The contents -/

/-- The first and the last grid point. -/
def tA : Fin cfg0.N := ⟨0, by rw [show cfg0.N = 10 from N_0]; omega⟩
def tZ : Fin cfg0.N := ⟨9, by rw [show cfg0.N = 10 from N_0]; omega⟩

/-- The activation codes, the spread scales, the scales as a row: fixed at the first point. -/
def qC (c : Dev nD) : Vec F S96x1024 .fp8e4m3 := codesOf (iblk m c 0 tA)
def slC (c : Dev nD) : Vec F S96x128 .f32 := lanesOf (iblk m c 0 tA)
def srC (c : Dev nD) : Vec F S1x96 .f32 := scalesOf (iblk m c 0 tA)
/-- Point `t`'s tile of hidden activations. -/
def hC (c : Dev nD) (t : Fin cfg0.N) : Vec F S96x2048 .bf16 := hidOf (qC m c) (slC m c) (iblk m c 1 t) (iblk m c 2 t) (iblk m c 3 t)
/-- The even columns' accumulator after point `n`; -/
def evC (c : Dev nD) : (n : ℕ) → n < cfg0.N → Vec F S96x512 .f32
  | 0, h => evenStep (hC m c ⟨0, h⟩) (iblk m c 4 ⟨0, h⟩) k0_pay38
  | n + 1, h => evenStep (hC m c ⟨n + 1, h⟩) (iblk m c 4 ⟨n + 1, h⟩) (evC c n (Nat.lt_of_succ_lt h))
/-- the odd columns'. -/
def odC (c : Dev nD) : (n : ℕ) → n < cfg0.N → Vec F S96x512 .f32
  | 0, h => oddStep (hC m c ⟨0, h⟩) (iblk m c 4 ⟨0, h⟩) k0_pay39
  | n + 1, h => oddStep (hC m c ⟨n + 1, h⟩) (iblk m c 4 ⟨n + 1, h⟩) (odC c n (Nat.lt_of_succ_lt h))
/-- The output block. -/
def yC (c : Dev nD) : Vec F S96x1024 .bf16 := outOf (evC m c 9 tZ.isLt) (odC m c 9 tZ.isLt) (iblk m c 5 tZ)

theorem evC_pos (c : Dev nD) (n : ℕ) (h : n < cfg0.N) (hz : n ≠ 0) :
    evC m c n h = evenStep (hC m c ⟨n, h⟩) (iblk m c 4 ⟨n, h⟩) (evC m c (n - 1) (by omega)) := by
  cases n with
  | zero => exact absurd rfl hz
  | succ n => rfl
theorem odC_pos (c : Dev nD) (n : ℕ) (h : n < cfg0.N) (hz : n ≠ 0) :
    odC m c n h = oddStep (hC m c ⟨n, h⟩) (iblk m c 4 ⟨n, h⟩) (odC m c (n - 1) (by omega)) := by
  cases n with
  | zero => exact absurd rfl hz
  | succ n => rfl

/-! ## The scratch between points -/

abbrev sc0 : Memref sig .tc .vmem S96x128 .f32 := Memref.whole cc0_scratch0
abbrev sc1 : Memref sig .tc .vmem S96x512 .f32 := Memref.whole cc0_scratch1
abbrev sc2 : Memref sig .tc .vmem S96x512 .f32 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- What holds of the scratch before position `n`: anything at first, then the scales and the accumulators. -/
def PhiS (c : Dev nD) : (n : ℕ) → n ≤ cfg0.N → sProp 𝕄
  | 0, _ => Pipeline.ΦA spec0 c
  | n + 1, hn => iprop(iprop(owns (c : Thread nD τ) sc0 fullShare (slC m c) ∗ owns (c : Thread nD τ) sc1 fullShare (evC m c n hn) ∗ owns (c : Thread nD τ) sc2 fullShare (odC m c n hn)) ∗ (∃ r, prngReg c r))

theorem PhiS_pos (c : Dev nD) (n : ℕ) (h : n ≤ cfg0.N) (hz : n ≠ 0) :
    PhiS m c n h = iprop(iprop(owns (c : Thread nD τ) sc0 fullShare (slC m c) ∗ owns (c : Thread nD τ) sc1 fullShare (evC m c (n - 1) (by omega)) ∗ owns (c : Thread nD τ) sc2 fullShare (odC m c (n - 1) (by omega))) ∗ (∃ r, prngReg c r)) := by
  cases n with
  | zero => exact absurd rfl hz
  | succ n => rfl

/-! ## The proof data -/

/-- The arrays as the region finds them, each input's block left in place, each output's buffer at the contents
    above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yC m c
    | ⟨7, _⟩ => hC m c t
    | ⟨8, _⟩ => qC m c
    | ⟨9, _⟩ => srC m c
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = yC m c := by dsimp only [dats]
theorem after7 (c : Dev nD) (t : Fin cfg0.N) : (dats m 0 c).after 7 t = hC m c t := by dsimp only [dats]
theorem after8 (c : Dev nD) (t : Fin cfg0.N) : (dats m 0 c).after 8 t = qC m c := by dsimp only [dats]
theorem after9 (c : Dev nD) (t : Fin cfg0.N) : (dats m 0 c).after 9 t = srC m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
/-- After the first point output 8's buffer keeps what the first point left. -/
theorem before8 (c : Dev nD) (t : Fin cfg0.N) (hz : t.val ≠ 0) (d) : (dats m 0 c).before 8 t d = qC m c := by
  rw [Dat.before_out_traj (dats m 0 c) 8 rfl (fun _ _ => rfl) (fun t _ _ _ => by rw [after8, after8]) t.val t rfl d,
    fresh8 t hz, if_neg Bool.false_ne_true, after8]
/-- After the first point output 9's buffer keeps what the first point left. -/
theorem before9 (c : Dev nD) (t : Fin cfg0.N) (hz : t.val ≠ 0) (d) : (dats m 0 c).before 9 t d = srC m c := by
  rw [Dat.before_out_traj (dats m 0 c) 9 rfl (fun _ _ => rfl) (fun t _ _ _ => by rw [after9, after9]) t.val t rfl d,
    fresh9 t hz, if_neg Bool.false_ne_true, after9]

/-! ## The body at a point -/

abbrev ms0 (t : Fin cfg0.N) : Memref sig .tc .vmem S96x1024 .bf16 := win0_0.stage (cfg0.slots t 0)
abbrev ms1 (t : Fin cfg0.N) : Memref sig .tc .vmem S1024x2048 .fp8e4m3 := win0_1.stage (cfg0.slots t 1)
abbrev ms2 (t : Fin cfg0.N) : Memref sig .tc .vmem S1x2048 .f32 := win0_2.stage (cfg0.slots t 2)
abbrev ms3 (t : Fin cfg0.N) : Memref sig .tc .vmem S1x2048 .f32 := win0_3.stage (cfg0.slots t 3)
abbrev ms4 (t : Fin cfg0.N) : Memref sig .tc .vmem S2048x512 .i8 := win0_4.stage (cfg0.slots t 4)
abbrev ms5 (t : Fin cfg0.N) : Memref sig .tc .vmem S1x1024 .f32 := win0_5.stage (cfg0.slots t 5)
abbrev ms6 (t : Fin cfg0.N) : Memref sig .tc .vmem S96x1024 .bf16 := win0_6.stage (cfg0.slots t 6)
abbrev ms7 (t : Fin cfg0.N) : Memref sig .tc .vmem S96x2048 .bf16 := win0_7.stage (cfg0.slots t 7)
abbrev ms8 (t : Fin cfg0.N) : Memref sig .tc .vmem S96x1024 .fp8e4m3 := win0_8.stage (cfg0.slots t 8)
abbrev ms9 (t : Fin cfg0.N) : Memref sig .tc .vmem S1x96 .f32 := win0_9.stage (cfg0.slots t 9)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0 (c : Dev nD) (t : Fin cfg0.N) : (dats m 0 c).leavesExact 0 t = owns (c : Thread nD τ) (ms0 t) fullShare (iblk m c 0 t) := by
  rw [← after0]
theorem leaves1 (c : Dev nD) (t : Fin cfg0.N) : (dats m 0 c).leavesExact 1 t = owns (c : Thread nD τ) (ms1 t) fullShare (iblk m c 1 t) := by
  rw [← after1]
theorem leaves2 (c : Dev nD) (t : Fin cfg0.N) : (dats m 0 c).leavesExact 2 t = owns (c : Thread nD τ) (ms2 t) fullShare (iblk m c 2 t) := by
  rw [← after2]
theorem leaves3 (c : Dev nD) (t : Fin cfg0.N) : (dats m 0 c).leavesExact 3 t = owns (c : Thread nD τ) (ms3 t) fullShare (iblk m c 3 t) := by
  rw [← after3]
theorem leaves4 (c : Dev nD) (t : Fin cfg0.N) : (dats m 0 c).leavesExact 4 t = owns (c : Thread nD τ) (ms4 t) fullShare (iblk m c 4 t) := by
  rw [← after4]
theorem leaves5 (c : Dev nD) (t : Fin cfg0.N) : (dats m 0 c).leavesExact 5 t = owns (c : Thread nD τ) (ms5 t) fullShare (iblk m c 5 t) := by
  rw [← after5]
theorem leaves7 (c : Dev nD) (t : Fin cfg0.N) : (dats m 0 c).leavesExact 7 t = owns (c : Thread nD τ) (ms7 t) fullShare (hC m c t) := by
  rw [← after7]
theorem leaves6_live (c : Dev nD) (t : Fin cfg0.N) (h : t.val = 9) : (dats m 0 c).leavesExact 6 t = owns (c : Thread nD τ) (ms6 t) fullShare (yC m c) := by
  rw [← after6 m c t]; unfold Dat.leavesExact; rw [(idle6 t).trans (by simp [h] : (!decide (t.val = 9)) = false)]
theorem leaves6_idle (c : Dev nD) (t : Fin cfg0.N) (h : t.val ≠ 9) (h9 : t.val ≠ 9) : (dats m 0 c).leavesExact 6 t = iprop(∃ d, owns (c : Thread nD τ) (ms6 t) fullShare ((dats m 0 c).before 6 t d)) :=
  Dat.leavesExact_idle (dats m 0 c) 6 t ((idle6 t).trans (by simp [h])) ((flush6 t).trans (by simp [h9]))
theorem leaves8_live (c : Dev nD) (t : Fin cfg0.N) (h : t.val = 0) : (dats m 0 c).leavesExact 8 t = owns (c : Thread nD τ) (ms8 t) fullShare (qC m c) := by
  rw [← after8 m c t]; unfold Dat.leavesExact; rw [(idle8 t).trans (by simp [h] : (!decide (t.val = 0)) = false)]
theorem leaves8_idle (c : Dev nD) (t : Fin cfg0.N) (h : t.val ≠ 0) (h9 : t.val ≠ 9) : (dats m 0 c).leavesExact 8 t = iprop(∃ d, owns (c : Thread nD τ) (ms8 t) fullShare ((dats m 0 c).before 8 t d)) :=
  Dat.leavesExact_idle (dats m 0 c) 8 t ((idle8 t).trans (by simp [h])) ((flush8 t).trans (by simp [h9]))
theorem leaves8_last (c : Dev nD) (t : Fin cfg0.N) (h9 : t.val = 9) : (dats m 0 c).leavesExact 8 t = owns (c : Thread nD τ) (ms8 t) fullShare (qC m c) := by
  rw [← after8 m c t]; unfold Dat.leavesExact; rw [(idle8 t).trans (by simp [h9] : (!decide (t.val = 0)) = true), (flush8 t).trans (by simp [h9] : decide (t.val = 9) = true)]
theorem leaves9_live (c : Dev nD) (t : Fin cfg0.N) (h : t.val = 0) : (dats m 0 c).leavesExact 9 t = owns (c : Thread nD τ) (ms9 t) fullShare (srC m c) := by
  rw [← after9 m c t]; unfold Dat.leavesExact; rw [(idle9 t).trans (by simp [h] : (!decide (t.val = 0)) = false)]
theorem leaves9_idle (c : Dev nD) (t : Fin cfg0.N) (h : t.val ≠ 0) (h9 : t.val ≠ 9) : (dats m 0 c).leavesExact 9 t = iprop(∃ d, owns (c : Thread nD τ) (ms9 t) fullShare ((dats m 0 c).before 9 t d)) :=
  Dat.leavesExact_idle (dats m 0 c) 9 t ((idle9 t).trans (by simp [h])) ((flush9 t).trans (by simp [h9]))
theorem leaves9_last (c : Dev nD) (t : Fin cfg0.N) (h9 : t.val = 9) : (dats m 0 c).leavesExact 9 t = owns (c : Thread nD τ) (ms9 t) fullShare (srC m c) := by
  rw [← after9 m c t]; unfold Dat.leavesExact; rw [(idle9 t).trans (by simp [h9] : (!decide (t.val = 0)) = true), (flush9 t).trans (by simp [h9] : decide (t.val = 9) = true)]

set_option maxHeartbeats 4000000 in
/-- The body at any point: the point is the first, the last or between, and that case's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves7]
  rw [show (dats m 0 c).owesAt () t.succ = (dats m 0 c).owesAt () t.castSucc from rfl]
  rw [show (dats m 0 c).Φ t.succ = PhiS m c (t.val + 1) t.isLt from rfl, Phi_castSucc]
  have hN : t.val < 10 := lt_of_lt_of_eq t.isLt (show cfg0.N = 10 from N_0)
  by_cases h0 : t.val = 0
  · obtain rfl : t = tA := Fin.ext h0
    rw [leaves6_idle m c tA (by decide) (by decide), leaves8_live m c tA rfl, leaves9_live m c tA rfl]
    rw [show PhiS m c (tA.val) (Nat.le_of_lt tA.isLt) = Pipeline.ΦA spec0 c from rfl, PhiA_eq, PhiS_pos m c (tA.val + 1) _ (Nat.succ_ne_zero _)]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyA c (grid0.coords tA) _ _ _ _ _ _ _ _ _ _ _ _ _ _ _ _ _ _ _ _ _ _ _ _ _ _ (iblk m c 0 tA) (iblk m c 1 tA) (iblk m c 2 tA) (iblk m c 3 tA) (iblk m c 4 tA) (iblk m c 5 tA) _ ((cond1_iff tA).mpr rfl) (fun h => absurd ((cond2_iff tA).mp h) (by decide)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [H7]; · iexact H7
    isplitl [H8]; · iexact H8
    iexact H9
  by_cases h9 : t.val = 9
  · rw [leaves6_live m c t h9, leaves8_last m c t h9, leaves9_last m c t h9]
    rw [PhiS_pos m c t.val _ h0, PhiS_pos m c (t.val + 1) _ (Nat.succ_ne_zero _)]
    simp only [before8 m c t h0, before9 m c t h0]
    obtain rfl : t = tZ := Fin.ext h9
    rw [show evC m c (tZ.val + 1 - 1) _ = _ from evC_pos m c tZ.val tZ.isLt h0, show odC m c (tZ.val + 1 - 1) _ = _ from odC_pos m c tZ.val tZ.isLt h0]
    rw [show yC m c = _ from congrArg₂ (fun a b => outOf a b _) (evC_pos m c tZ.val tZ.isLt h0) (odC_pos m c tZ.val tZ.isLt h0)]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyC c (grid0.coords tZ) _ _ _ _ _ _ _ _ _ _ _ _ _ _ _ _ _ _ _ _ _ _ _ _ _ _ (iblk m c 0 tZ) (iblk m c 1 tZ) (iblk m c 2 tZ) (iblk m c 3 tZ) (iblk m c 4 tZ) (iblk m c 5 tZ) (qC m c) (srC m c) (slC m c) (evC m c (tZ.val - 1) _) (odC m c (tZ.val - 1) _) (fun h => h0 ((cond1_iff tZ).mp h)) ((cond2_iff tZ).mpr rfl) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [leaves6_idle m c t h9 h9, leaves8_idle m c t h0 h9, leaves9_idle m c t h0 h9]
    rw [PhiS_pos m c t.val _ h0, PhiS_pos m c (t.val + 1) _ (Nat.succ_ne_zero _)]
    simp only [before8 m c t h0, before9 m c t h0]
    rw [show evC m c (t.val + 1 - 1) _ = _ from evC_pos m c t.val t.isLt h0, show odC m c (t.val + 1 - 1) _ = _ from odC_pos m c t.val t.isLt h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyB c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) _ (qC m c) (srC m c) (slC m c) (evC m c (t.val - 1) _) (odC m c (t.val - 1) _) (fun h => h0 ((cond1_iff t).mp h)) (fun h => h9 ((cond2_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [H7]; · iexact H7
    isplitl [H8]; · iexists d8; iexact H8
    iexists d9; iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by rw [show cfg0.N = 10 from N_0]; decide), PhiA_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
/-- Every weakly fair execution terminates with every array of the pipeline at what the proof data says, every other
    unscoped buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.KernelIdeal.Body.lean ====
/-
The kernel's body as three triples, one for each kind of grid point, with what it leaves in every buffer written
as an explicit function of what it finds there. Nothing here depends on what a float is.
-/
module

public import proofs.«01_k».proof.Proof.Gen.KernelIdeal.Skeleton
public import Idealize.ShloMosaic.Lib.Pipeline.Value
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the buffers hold -/

/-- The activation codes: the quantiser's output on the activation block. -/
def codesOf (x : Vec F S96x1024 .bf16) : Vec F S96x1024 .fp8e4m3 :=
  k0_pay35 (k0_pay11 (k0_pay4 x) (k0_pay5 x) (k0_pay6 x) (k0_pay7 x) (k0_pay8 x))
    (Scalar.ofBits .f32 0xC3E00000#32) (Scalar.ofBits .f32 0x43E00000#32)

/-- The token scales, spread over the lanes. -/
def lanesOf (x : Vec F S96x1024 .bf16) : Vec F S96x128 .f32 :=
  k0_pay36 (k0_pay10 (k0_pay5 x) (k0_pay6 x) (k0_pay7 x) (k0_pay8 x))

/-- The token scales as a row. -/
def scalesOf (x : Vec F S96x1024 .bf16) : Vec F S1x96 .f32 :=
  k0_pay37 (k0_pay10 (k0_pay5 x) (k0_pay6 x) (k0_pay7 x) (k0_pay8 x))

/-- The first column of the spread scales: one scale a token. -/
def colOf (s : Vec F S96x128 .f32) : Vec F S96x1 .f32 :=
  View.ld (Val := Elt F) (e' := .f32) s (Rect.unit (s := S96x128) ![0, 0] S96x1.size inb_S96x128_S96x1_0_0)

/-- A tile of hidden activations. -/
def hidOf (q : Vec F S96x1024 .fp8e4m3) (s : Vec F S96x128 .f32) (w : Vec F S1024x2048 .fp8e4m3) (ws b : Vec F S1x2048 .f32) :
    Vec F S96x2048 .bf16 :=
  k0_pay40 q w (colOf s) ws b

/-- The even columns' accumulator after a tile. -/
def evenStep (h : Vec F S96x2048 .bf16) (wd : Vec F S2048x512 .i8) (acc : Vec F S96x512 .f32) : Vec F S96x512 .f32 :=
  k0_pay1 h (k0_pay42 wd) acc

/-- The odd columns' accumulator after a tile. -/
def oddStep (h : Vec F S96x2048 .bf16) (wd : Vec F S2048x512 .i8) (acc : Vec F S96x512 .f32) : Vec F S96x512 .f32 :=
  k0_pay2 h (k0_pay43 wd) acc

/-- A 128-column piece of an accumulator. -/
def cut (acc : Vec F S96x512 .f32) (o : ℕ) (inb : ∀ a, (![0, o] : Fin 2 → ℕ) a + S96x128.size a ≤ S96x512.size a) : Vec F S96x128 .f32 :=
  View.ld (Val := Elt F) (e' := .f32) acc (Rect.unit (s := S96x512) ![0, o] S96x128.size inb)

/-- A 128-column piece of the output scales. -/
def cutS (w : Vec F S1x1024 .f32) (o : ℕ) (inb : ∀ a, (![0, o] : Fin 2 → ℕ) a + S1x128.size a ≤ S1x1024.size a) : Vec F S1x128 .f32 :=
  View.ld (Val := Elt F) (e' := .f32) w (Rect.unit (s := S1x1024) ![0, o] S1x128.size inb)

/-- One 128-column piece of the output: the two accumulators' columns interleaved, the nibbles' factor of sixteen
    taken back out, the output scales multiplied in. `s` says which half of the accumulators' piece is read. -/
def chunk (s : BitVec 32) (e o : Vec F S96x128 .f32) (w : Vec F S1x128 .f32) : Vec F S96x128 .bf16 :=
  have l : IVec S96x128 32 := iota .tc S96x128 32 [1] iota_S96x128_d1_w32
  have p : IVec S96x128 32 := addi (shrsi l (broadcast S96x128 1#32)) (broadcast S96x128 s)
  have q : IVec S96x128 32 := select (cmpi .slt p (broadcast S96x128 0#32)) (addi p (broadcast S96x128 128#32)) p
  have g : IVec S96x128 32 := shapeCast S96x128 (shapeCast S96x128x1 q shapeCasts_S96x128_S96x128x1) shapeCasts_S96x128x1_S96x128
  have ev : IVec S96x128 1 := cmpi .eq (andi l (broadcast S96x128 1#32)) (broadcast S96x128 0#32)
  have v : FVec F S96x128 .f32 := select ev (dynamicGather 1 e g) (dynamicGather 1 o g)
  truncf .bf16 (mulf (mulf v (broadcast S96x128 (Scalar.ofBits .f32 0x3D800000#32 : F .f32)))
    (broadcastTo S96x128 (shapeCast S1x128 w shapeCasts_S1x128_S1x128) broadcasts_S1x128_S96x128)) bitsLt_bf16_f32

/-- The output's eight pieces, the last stored first. -/
def pieces (e o : Vec F S96x512 .f32) (w : Vec F S1x1024 .f32) : List (View.Piece (Elt F) S96x1024 .bf16) :=
  [
   ⟨Rect.unit (s := S96x1024) ![0, 896] S96x128.size inb_S96x1024_S96x128_0_896,
      chunk 64#32 (cut e 384 inb_S96x512_S96x128_0_384) (cut o 384 inb_S96x512_S96x128_0_384) (cutS w 896 inb_S1x1024_S1x128_0_896)⟩,
   ⟨Rect.unit (s := S96x1024) ![0, 768] S96x128.size inb_S96x1024_S96x128_0_768,
      chunk 0#32 (cut e 384 inb_S96x512_S96x128_0_384) (cut o 384 inb_S96x512_S96x128_0_384) (cutS w 768 inb_S1x1024_S1x128_0_768)⟩,
   ⟨Rect.unit (s := S96x1024) ![0, 640] S96x128.size inb_S96x1024_S96x128_0_640,
      chunk 64#32 (cut e 256 inb_S96x512_S96x128_0_256) (cut o 256 inb_S96x512_S96x128_0_256) (cutS w 640 inb_S1x1024_S1x128_0_640)⟩,
   ⟨Rect.unit (s := S96x1024) ![0, 512] S96x128.size inb_S96x1024_S96x128_0_512,
      chunk 0#32 (cut e 256 inb_S96x512_S96x128_0_256) (cut o 256 inb_S96x512_S96x128_0_256) (cutS w 512 inb_S1x1024_S1x128_0_512)⟩,
   ⟨Rect.unit (s := S96x1024) ![0, 384] S96x128.size inb_S96x1024_S96x128_0_384,
      chunk 64#32 (cut e 128 inb_S96x512_S96x128_0_128) (cut o 128 inb_S96x512_S96x128_0_128) (cutS w 384 inb_S1x1024_S1x128_0_384)⟩,
   ⟨Rect.unit (s := S96x1024) ![0, 256] S96x128.size inb_S96x1024_S96x128_0_256,
      chunk 0#32 (cut e 128 inb_S96x512_S96x128_0_128) (cut o 128 inb_S96x512_S96x128_0_128) (cutS w 256 inb_S1x1024_S1x128_0_256)⟩,
   ⟨Rect.unit (s := S96x1024) ![0, 128] S96x128.size inb_S96x1024_S96x128_0_128,
      chunk 64#32 (cut e 0 inb_S96x512_S96x128_0_0) (cut o 0 inb_S96x512_S96x128_0_0) (cutS w 128 inb_S1x1024_S1x128_0_128)⟩,
   ⟨Rect.unit (s := S96x1024) ![0, 0] S96x128.size inb_S96x1024_S96x128_0_0,
      chunk 0#32 (cut e 0 inb_S96x512_S96x128_0_0) (cut o 0 inb_S96x512_S96x128_0_0) (cutS w 0 inb_S1x1024_S1x128_0_0)⟩]

/-- The pieces cover the output. -/
theorem pieces_cover (e o : Vec F S96x512 .f32) (w : Vec F S1x1024 .f32) (y : S96x1024.Idx) : ∃ p ∈ pieces e o w, y ∈ p.1.set :=
  View.cover_of_tiledL (pieces e o w) S96x128.size (by sl_kernel_rfl) y

/-- The output block. -/
def outOf (e o : Vec F S96x512 .f32) (w : Vec F S1x1024 .f32) : Vec F S96x1024 .bf16 := View.canon (pieces e o w)

/-! ## Reading whole buffers back -/

theorem zero2 : (![0, 0] : Fin 2 → ℕ) = fun _ => 0 := by funext a; fin_cases a <;> rfl

theorem rd {sp : Space} {s : Shape} {e : EltTy} {r : Memref sig .tc sp s e} (h : r.IsWhole) (X : s.Idx → Elt F e) (R : Rect s) :
    r.view.readAt (Elt F) R.toLoadRect (h.unread X) = View.ld X R := by
  rw [View.readAt_eq_ld, h.read_unread]

theorem rdW {sp : Space} {d : Fin 2 → ℕ} {e : EltTy} {r : Memref sig .tc sp ⟨2, d⟩ e} (h : r.IsWhole)
    (X : (⟨2, d⟩ : Shape).Idx → Elt F e) (inb : ∀ a, (![0, 0] : Fin 2 → ℕ) a + d a ≤ d a) :
    r.view.readAt (Elt F) (Rect.unit (s := ⟨2, d⟩) ![0, 0] d inb).toLoadRect (h.unread X) = X :=
  (rd h X _).trans (View.ld_unit_zero (S := ⟨2, d⟩) zero2 inb X)

theorem rcG {sp : Space} {S : Shape} {e : EltTy} (v : View sig .tc sp S e) {off : Fin S.rank → ℕ} (h0 : off = fun _ => 0)
    (inb : ∀ a, off a + S.size a ≤ S.size a) (w : S.Idx → Elt F e) (L : List (View.Piece (Elt F) S e)) (R : Rect S) :
    v.readCov ((⟨Rect.unit off S.size inb, w⟩ : View.Piece (Elt F) S e) :: L) R.toLoadRect = View.ld w R := by
  rw [View.readCov_eq_canon_ld _ _ _ (fun y => ⟨⟨Rect.unit off S.size inb, w⟩, List.mem_cons_self, View.mem_set_unit_zero h0 inb y⟩),
    View.canon_cons_unit_zero h0 inb w L]

theorem wrG {sp : Space} {S : Shape} {e : EltTy} (v : View sig .tc sp S e) (f : v.ty.Contents (Elt F)) {off : Fin S.rank → ℕ} (h0 : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨⟨Rect.unit off S.size inb, w⟩, List.mem_cons_self, View.mem_set_unit_zero h0 inb y⟩),
    View.canon_cons_unit_zero h0 inb w L]

theorem rcW {sp : Space} {d : Fin 2 → ℕ} {e : EltTy} (v : View sig .tc sp ⟨2, d⟩ e) (inb : ∀ a, (![0, 0] : Fin 2 → ℕ) a + d a ≤ d a)
    (w : (⟨2, d⟩ : Shape).Idx → Elt F e) (L : List (View.Piece (Elt F) ⟨2, d⟩ e)) (R : Rect ⟨2, d⟩) :
    v.readCov ((⟨Rect.unit (s := ⟨2, d⟩) ![0, 0] d inb, w⟩ : View.Piece (Elt F) ⟨2, d⟩ e) :: L) R.toLoadRect = View.ld w R :=
  rcG (S := ⟨2, d⟩) v zero2 inb w L R

theorem wrW {sp : Space} {d : Fin 2 → ℕ} {e : EltTy} (v : View sig .tc sp ⟨2, d⟩ e) (f : v.ty.Contents (Elt F)) (inb : ∀ a, (![0, 0] : Fin 2 → ℕ) a + d a ≤ d a)
    (w : (⟨2, d⟩ : Shape).Idx → Elt F e) (L : List (View.Piece (Elt F) ⟨2, d⟩ e)) :
    v.read (Elt F) (v.writes (Elt F) f ((⟨Rect.unit (s := ⟨2, d⟩) ![0, 0] d inb, w⟩ : View.Piece (Elt F) ⟨2, d⟩ e) :: L)) = w :=
  wrG (S := ⟨2, d⟩) v f zero2 inb w L

theorem ldW {d : Fin 2 → ℕ} {e : EltTy} (X : (⟨2, d⟩ : Shape).Idx → Elt F e) (inb : ∀ a, (![0, 0] : Fin 2 → ℕ) a + d a ≤ d a) :
    View.ld X (Rect.unit (s := ⟨2, d⟩) ![0, 0] d inb) = X := View.ld_unit_zero (S := ⟨2, d⟩) zero2 inb X

/-! ## The triples -/

variable (c : Dev nD) (i : grid0.Coords)
  (arg1 : Memref sig .tc .vmem S96x1024 .bf16) (harg1 : arg1.IsWhole)
  (arg2 : Memref sig .tc .vmem S1024x2048 .fp8e4m3) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S2048x512 .i8) (harg5 : arg5.IsWhole)
  (arg6 : Memref sig .tc .vmem S1x1024 .f32) (harg6 : arg6.IsWhole)
  (arg7 : Memref sig .tc .vmem S96x1024 .bf16) (harg7 : arg7.IsWhole)
  (arg8 : Memref sig .tc .vmem S96x2048 .bf16) (harg8 : arg8.IsWhole)
  (arg9 : Memref sig .tc .vmem S96x1024 .fp8e4m3) (harg9 : arg9.IsWhole)
  (arg10 : Memref sig .tc .vmem S1x96 .f32) (harg10 : arg10.IsWhole)
  (arg11 : Memref sig .tc .vmem S96x128 .f32) (harg11 : arg11.IsWhole)
  (arg12 : Memref sig .tc .vmem S96x512 .f32) (harg12 : arg12.IsWhole)
  (arg13 : Memref sig .tc .vmem S96x512 .f32) (harg13 : arg13.IsWhole)
  (x0 : Vec F S96x1024 .bf16) (x1 : Vec F S1024x2048 .fp8e4m3) (x2 x3 : Vec F S1x2048 .f32) (x4 : Vec F S2048x512 .i8) (x5 : Vec F S1x1024 .f32)
  (x6 : Vec F S96x1024 .bf16)
  (q : Vec F S96x1024 .fp8e4m3) (sr : Vec F S1x96 .f32) (sl : Vec F S96x128 .f32) (ev od : Vec F S96x512 .f32)

set_option maxHeartbeats 4000000 in
/-- The first point: quantise, clear the accumulators, then a tile. -/
theorem bodyA (hc0 : k0_cond1 i = 1#1) (hc1 : ¬k0_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hidOf (codesOf x0) (lanesOf x0) x1 x2 x3) ∗ owns (c : Thread nD τ) arg9 fullShare (codesOf x0) ∗ owns (c : Thread nD τ) arg10 fullShare (scalesOf x0) ∗ owns (c : Thread nD τ) arg11 fullShare (lanesOf x0) ∗ owns (c : Thread nD τ) arg12 fullShare (evenStep (hidOf (codesOf x0) (lanesOf x0) x1 x2 x3) x4 k0_pay38) ∗ owns (c : Thread nD τ) arg13 fullShare (oddStep (hidOf (codesOf x0) (lanesOf x0) x1 x2 x3) x4 k0_pay39)) -∗ K ⟨⟩))
      ⊢ wp frame (wpE (defs₀ (F := F)) Variants.none c none) E (cc0_relu_mlp i arg1 harg1 arg2 harg2 arg3 harg3 arg4 harg4 arg5 harg5 arg6 harg6 arg7 harg7 arg8 harg8 arg9 harg9 arg10 harg10 arg11 harg11 arg12 harg12 arg13 harg13) K := by
  simp only [cc0_relu_mlp_eq_skeleton]; unfold cc0_relu_mlp_skel
  simp only [k0_part10_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  sl_unfold_words
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro
    simp only [wrW, rcW, rdW, rd, ldW]; rfl
  isplitl [H9]
  · iexists _; isplitr; swap; · iexact H9
    ipureintro
    simp only [wrW, rcW, rdW, rd, ldW]; rfl
  isplitl [H10]
  · iexists _; isplitr; swap; · iexact H10
    ipureintro
    simp only [wrW, rcW, rdW, rd, ldW]; rfl
  isplitl [H11]
  · iexists _; isplitr; swap; · iexact H11
    ipureintro
    simp only [wrW, rcW, rdW, rd, ldW]; rfl
  isplitl [H12]
  · iexists _; isplitr; swap; · iexact H12
    ipureintro
    simp only [wrW, rcW, rdW, rd, ldW]; rfl
  iexists _; isplitr; swap; · iexact H13
  ipureintro
  simp only [wrW, rcW, rdW, rd, ldW]; rfl

set_option maxHeartbeats 4000000 in
/-- A point between: a tile. -/
theorem bodyB (hc0 : ¬k0_cond1 i = 1#1) (hc1 : ¬k0_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare q ∗ owns (c : Thread nD τ) arg10 fullShare sr ∗ owns (c : Thread nD τ) arg11 fullShare sl ∗ owns (c : Thread nD τ) arg12 fullShare ev ∗ owns (c : Thread nD τ) arg13 fullShare od
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (hidOf q sl x1 x2 x3) ∗ owns (c : Thread nD τ) arg9 fullShare q ∗ owns (c : Thread nD τ) arg10 fullShare sr ∗ owns (c : Thread nD τ) arg11 fullShare sl ∗ owns (c : Thread nD τ) arg12 fullShare (evenStep (hidOf q sl x1 x2 x3) x4 ev) ∗ owns (c : Thread nD τ) arg13 fullShare (oddStep (hidOf q sl x1 x2 x3) x4 od)) -∗ K ⟨⟩))
      ⊢ wp frame (wpE (defs₀ (F := F)) Variants.none c none) E (cc0_relu_mlp i arg1 harg1 arg2 harg2 arg3 harg3 arg4 harg4 arg5 harg5 arg6 harg6 arg7 harg7 arg8 harg8 arg9 harg9 arg10 harg10 arg11 harg11 arg12 harg12 arg13 harg13) K := by
  simp only [cc0_relu_mlp_eq_skeleton]; unfold cc0_relu_mlp_skel
  simp only [k0_part10_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1)
  sl_step
  sl_unfold_words
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro
    simp only [wrW, rcW, rdW, rd, ldW]; rfl
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro
    simp only [wrW, rcW, rdW, rd, ldW]; rfl
  iexists _; isplitr; swap; · iexact H13
  ipureintro
  simp only [wrW, rcW, rdW, rd, ldW]; rfl

set_option maxHeartbeats 4000000 in
/-- The last point: a tile, then the output. -/
theorem bodyC (hc0 : ¬k0_cond1 i = 1#1) (hc1 : k0_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare q ∗ owns (c : Thread nD τ) arg10 fullShare sr ∗ owns (c : Thread nD τ) arg11 fullShare sl ∗ owns (c : Thread nD τ) arg12 fullShare ev ∗ owns (c : Thread nD τ) arg13 fullShare od
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outOf (evenStep (hidOf q sl x1 x2 x3) x4 ev) (oddStep (hidOf q sl x1 x2 x3) x4 od) x5) ∗ owns (c : Thread nD τ) arg8 fullShare (hidOf q sl x1 x2 x3) ∗ owns (c : Thread nD τ) arg9 fullShare q ∗ owns (c : Thread nD τ) arg10 fullShare sr ∗ owns (c : Thread nD τ) arg11 fullShare sl ∗ owns (c : Thread nD τ) arg12 fullShare (evenStep (hidOf q sl x1 x2 x3) x4 ev) ∗ owns (c : Thread nD τ) arg13 fullShare (oddStep (hidOf q sl x1 x2 x3) x4 od)) -∗ K ⟨⟩))
      ⊢ wp frame (wpE (defs₀ (F := F)) Variants.none c none) E (cc0_relu_mlp i arg1 harg1 arg2 harg2 arg3 harg3 arg4 harg4 arg5 harg5 arg6 harg6 arg7 harg7 arg8 harg8 arg9 harg9 arg10 harg10 arg11 harg11 arg12 harg12 arg13 harg13) K := by
  simp only [cc0_relu_mlp_eq_skeleton]; unfold cc0_relu_mlp_skel
  simp only [k0_part10_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1)
  sl_step
  sl_unfold_words
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro
    simp only [wrW, rcW, rdW, rd, ldW]; exact View.read_writes_eq_canon _ _ (pieces _ _ _) (pieces_cover _ _ _)
  isplitl [H8]
  · iexists _; isplitr; swap; · iexact H8
    ipureintro
    simp only [wrW, rcW, rdW, rd, ldW]; rfl
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro
    simp only [wrW, rcW, rdW, rd, ldW]; rfl
  iexists _; isplitr; swap; · iexact H13
  ipureintro
  simp only [wrW, rcW, rdW, rd, ldW]; rfl

end Cert.KernelIdeal.Hand

end
-- ==== Proof.KernelIdeal.Run.lean ====
/-
The pipeline's proof data — every buffer's contents after every grid point, as explicit functions of the blocks the
windows read — and the run of the whole program from them. Nothing here depends on what a float is.
-/
module

public import proofs.«01_k».proof.Proof.Gen.KernelIdeal.Skeleton
public import proofs.«01_k».proof.Proof.Gen.KernelIdeal.Frame
public import Idealize.ShloMosaic.Lib.Pipeline.Value
public import Idealize.ShloMosaic.Lib.Pipeline.TableIdle
public import Idealize.ShloMosaic.Lib.Claim
public import proofs.«01_k».proof.Proof.KernelIdeal.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points take which branch -/

theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 9 := by decide +kernel
theorem idle6 : ∀ t : Fin cfg0.N, cfg0.idle 6 (grid0.coords t) = !decide (t.val = 9) := by decide +kernel
theorem idle8 : ∀ t : Fin cfg0.N, cfg0.idle 8 (grid0.coords t) = !decide (t.val = 0) := by decide +kernel
theorem idle9 : ∀ t : Fin cfg0.N, cfg0.idle 9 (grid0.coords t) = !decide (t.val = 0) := by decide +kernel
theorem flush6 : ∀ t : Fin cfg0.N, (cfg0.win 6).flush t = decide (t.val = 9) := by decide +kernel
theorem flush8 : ∀ t : Fin cfg0.N, (cfg0.win 8).flush t = decide (t.val = 9) := by decide +kernel
theorem flush9 : ∀ t : Fin cfg0.N, (cfg0.win 9).flush t = decide (t.val = 9) := by decide +kernel

theorem fresh8 (t : Fin cfg0.N) (h : t.val ≠ 0) : cfg0.fresh 8 t.val = false :=
  (Cfg.fresh_tab cfg0 8 (fun n => decide (n = 0 ∨ n = 10)) (by decide) (by decide +kernel) t.val (Nat.le_of_lt t.isLt)).trans
    (by have : t.val < 10 := lt_of_lt_of_eq t.isLt (show cfg0.N = 10 from N_0); simp; omega)
theorem fresh9 (t : Fin cfg0.N) (h : t.val ≠ 0) : cfg0.fresh 9 t.val = false :=
  (Cfg.fresh_tab cfg0 9 (fun n => decide (n = 0 ∨ n = 10)) (by decide) (by decide +kernel) t.val (Nat.le_of_lt t.isLt)).trans
    (by have : t.val < 10 := lt_of_lt_of_eq t.isLt (show cfg0.N = 10 from N_0); simp; omega)

/-! ## The contents -/

/-- The first and the last grid point. -/
def tA : Fin cfg0.N := ⟨0, by rw [show cfg0.N = 10 from N_0]; omega⟩
def tZ : Fin cfg0.N := ⟨9, by rw [show cfg0.N = 10 from N_0]; omega⟩

/-- The activation codes, the spread scales, the scales as a row: fixed at the first point. -/
def qC (c : Dev nD) : Vec F S96x1024 .fp8e4m3 := codesOf (iblk m c 0 tA)
def slC (c : Dev nD) : Vec F S96x128 .f32 := lanesOf (iblk m c 0 tA)
def srC (c : Dev nD) : Vec F S1x96 .f32 := scalesOf (iblk m c 0 tA)
/-- Point `t`'s tile of hidden activations. -/
def hC (c : Dev nD) (t : Fin cfg0.N) : Vec F S96x2048 .bf16 := hidOf (qC m c) (slC m c) (iblk m c 1 t) (iblk m c 2 t) (iblk m c 3 t)
/-- The even columns' accumulator after point `n`; -/
def evC (c : Dev nD) : (n : ℕ) → n < cfg0.N → Vec F S96x512 .f32
  | 0, h => evenStep (hC m c ⟨0, h⟩) (iblk m c 4 ⟨0, h⟩) k0_pay38
  | n + 1, h => evenStep (hC m c ⟨n + 1, h⟩) (iblk m c 4 ⟨n + 1, h⟩) (evC c n (Nat.lt_of_succ_lt h))
/-- the odd columns'. -/
def odC (c : Dev nD) : (n : ℕ) → n < cfg0.N → Vec F S96x512 .f32
  | 0, h => oddStep (hC m c ⟨0, h⟩) (iblk m c 4 ⟨0, h⟩) k0_pay39
  | n + 1, h => oddStep (hC m c ⟨n + 1, h⟩) (iblk m c 4 ⟨n + 1, h⟩) (odC c n (Nat.lt_of_succ_lt h))
/-- The output block. -/
def yC (c : Dev nD) : Vec F S96x1024 .bf16 := outOf (evC m c 9 tZ.isLt) (odC m c 9 tZ.isLt) (iblk m c 5 tZ)

theorem evC_pos (c : Dev nD) (n : ℕ) (h : n < cfg0.N) (hz : n ≠ 0) :
    evC m c n h = evenStep (hC m c ⟨n, h⟩) (iblk m c 4 ⟨n, h⟩) (evC m c (n - 1) (by omega)) := by
  cases n with
  | zero => exact absurd rfl hz
  | succ n => rfl
theorem odC_pos (c : Dev nD) (n : ℕ) (h : n < cfg0.N) (hz : n ≠ 0) :
    odC m c n h = oddStep (hC m c ⟨n, h⟩) (iblk m c 4 ⟨n, h⟩) (odC m c (n - 1) (by omega)) := by
  cases n with
  | zero => exact absurd rfl hz
  | succ n => rfl

/-! ## The scratch between points -/

abbrev sc0 : Memref sig .tc .vmem S96x128 .f32 := Memref.whole cc0_scratch0
abbrev sc1 : Memref sig .tc .vmem S96x512 .f32 := Memref.whole cc0_scratch1
abbrev sc2 : Memref sig .tc .vmem S96x512 .f32 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- What holds of the scratch before position `n`: anything at first, then the scales and the accumulators. -/
def PhiS (c : Dev nD) : (n : ℕ) → n ≤ cfg0.N → sProp 𝕄
  | 0, _ => Pipeline.ΦA spec0 c
  | n + 1, hn => iprop(iprop(owns (c : Thread nD τ) sc0 fullShare (slC m c) ∗ owns (c : Thread nD τ) sc1 fullShare (evC m c n hn) ∗ owns (c : Thread nD τ) sc2 fullShare (odC m c n hn)) ∗ (∃ r, prngReg c r))

theorem PhiS_pos (c : Dev nD) (n : ℕ) (h : n ≤ cfg0.N) (hz : n ≠ 0) :
    PhiS m c n h = iprop(iprop(owns (c : Thread nD τ) sc0 fullShare (slC m c) ∗ owns (c : Thread nD τ) sc1 fullShare (evC m c (n - 1) (by omega)) ∗ owns (c : Thread nD τ) sc2 fullShare (odC m c (n - 1) (by omega))) ∗ (∃ r, prngReg c r)) := by
  cases n with
  | zero => exact absurd rfl hz
  | succ n => rfl

/-! ## The proof data -/

/-- The arrays as the region finds them, each input's block left in place, each output's buffer at the contents
    above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yC m c
    | ⟨7, _⟩ => hC m c t
    | ⟨8, _⟩ => qC m c
    | ⟨9, _⟩ => srC m c
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = yC m c := by dsimp only [dats]
theorem after7 (c : Dev nD) (t : Fin cfg0.N) : (dats m 0 c).after 7 t = hC m c t := by dsimp only [dats]
theorem after8 (c : Dev nD) (t : Fin cfg0.N) : (dats m 0 c).after 8 t = qC m c := by dsimp only [dats]
theorem after9 (c : Dev nD) (t : Fin cfg0.N) : (dats m 0 c).after 9 t = srC m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
/-- After the first point output 8's buffer keeps what the first point left. -/
theorem before8 (c : Dev nD) (t : Fin cfg0.N) (hz : t.val ≠ 0) (d) : (dats m 0 c).before 8 t d = qC m c := by
  rw [Dat.before_out_traj (dats m 0 c) 8 rfl (fun _ _ => rfl) (fun t _ _ _ => by rw [after8, after8]) t.val t rfl d,
    fresh8 t hz, if_neg Bool.false_ne_true, after8]
/-- After the first point output 9's buffer keeps what the first point left. -/
theorem before9 (c : Dev nD) (t : Fin cfg0.N) (hz : t.val ≠ 0) (d) : (dats m 0 c).before 9 t d = srC m c := by
  rw [Dat.before_out_traj (dats m 0 c) 9 rfl (fun _ _ => rfl) (fun t _ _ _ => by rw [after9, after9]) t.val t rfl d,
    fresh9 t hz, if_neg Bool.false_ne_true, after9]

/-! ## The body at a point -/

abbrev ms0 (t : Fin cfg0.N) : Memref sig .tc .vmem S96x1024 .bf16 := win0_0.stage (cfg0.slots t 0)
abbrev ms1 (t : Fin cfg0.N) : Memref sig .tc .vmem S1024x2048 .fp8e4m3 := win0_1.stage (cfg0.slots t 1)
abbrev ms2 (t : Fin cfg0.N) : Memref sig .tc .vmem S1x2048 .f32 := win0_2.stage (cfg0.slots t 2)
abbrev ms3 (t : Fin cfg0.N) : Memref sig .tc .vmem S1x2048 .f32 := win0_3.stage (cfg0.slots t 3)
abbrev ms4 (t : Fin cfg0.N) : Memref sig .tc .vmem S2048x512 .i8 := win0_4.stage (cfg0.slots t 4)
abbrev ms5 (t : Fin cfg0.N) : Memref sig .tc .vmem S1x1024 .f32 := win0_5.stage (cfg0.slots t 5)
abbrev ms6 (t : Fin cfg0.N) : Memref sig .tc .vmem S96x1024 .bf16 := win0_6.stage (cfg0.slots t 6)
abbrev ms7 (t : Fin cfg0.N) : Memref sig .tc .vmem S96x2048 .bf16 := win0_7.stage (cfg0.slots t 7)
abbrev ms8 (t : Fin cfg0.N) : Memref sig .tc .vmem S96x1024 .fp8e4m3 := win0_8.stage (cfg0.slots t 8)
abbrev ms9 (t : Fin cfg0.N) : Memref sig .tc .vmem S1x96 .f32 := win0_9.stage (cfg0.slots t 9)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0 (c : Dev nD) (t : Fin cfg0.N) : (dats m 0 c).leavesExact 0 t = owns (c : Thread nD τ) (ms0 t) fullShare (iblk m c 0 t) := by
  rw [← after0]
theorem leaves1 (c : Dev nD) (t : Fin cfg0.N) : (dats m 0 c).leavesExact 1 t = owns (c : Thread nD τ) (ms1 t) fullShare (iblk m c 1 t) := by
  rw [← after1]
theorem leaves2 (c : Dev nD) (t : Fin cfg0.N) : (dats m 0 c).leavesExact 2 t = owns (c : Thread nD τ) (ms2 t) fullShare (iblk m c 2 t) := by
  rw [← after2]
theorem leaves3 (c : Dev nD) (t : Fin cfg0.N) : (dats m 0 c).leavesExact 3 t = owns (c : Thread nD τ) (ms3 t) fullShare (iblk m c 3 t) := by
  rw [← after3]
theorem leaves4 (c : Dev nD) (t : Fin cfg0.N) : (dats m 0 c).leavesExact 4 t = owns (c : Thread nD τ) (ms4 t) fullShare (iblk m c 4 t) := by
  rw [← after4]
theorem leaves5 (c : Dev nD) (t : Fin cfg0.N) : (dats m 0 c).leavesExact 5 t = owns (c : Thread nD τ) (ms5 t) fullShare (iblk m c 5 t) := by
  rw [← after5]
theorem leaves7 (c : Dev nD) (t : Fin cfg0.N) : (dats m 0 c).leavesExact 7 t = owns (c : Thread nD τ) (ms7 t) fullShare (hC m c t) := by
  rw [← after7]
theorem leaves6_live (c : Dev nD) (t : Fin cfg0.N) (h : t.val = 9) : (dats m 0 c).leavesExact 6 t = owns (c : Thread nD τ) (ms6 t) fullShare (yC m c) := by
  rw [← after6 m c t]; unfold Dat.leavesExact; rw [(idle6 t).trans (by simp [h] : (!decide (t.val = 9)) = false)]
theorem leaves6_idle (c : Dev nD) (t : Fin cfg0.N) (h : t.val ≠ 9) (h9 : t.val ≠ 9) : (dats m 0 c).leavesExact 6 t = iprop(∃ d, owns (c : Thread nD τ) (ms6 t) fullShare ((dats m 0 c).before 6 t d)) :=
  Dat.leavesExact_idle (dats m 0 c) 6 t ((idle6 t).trans (by simp [h])) ((flush6 t).trans (by simp [h9]))
theorem leaves8_live (c : Dev nD) (t : Fin cfg0.N) (h : t.val = 0) : (dats m 0 c).leavesExact 8 t = owns (c : Thread nD τ) (ms8 t) fullShare (qC m c) := by
  rw [← after8 m c t]; unfold Dat.leavesExact; rw [(idle8 t).trans (by simp [h] : (!decide (t.val = 0)) = false)]
theorem leaves8_idle (c : Dev nD) (t : Fin cfg0.N) (h : t.val ≠ 0) (h9 : t.val ≠ 9) : (dats m 0 c).leavesExact 8 t = iprop(∃ d, owns (c : Thread nD τ) (ms8 t) fullShare ((dats m 0 c).before 8 t d)) :=
  Dat.leavesExact_idle (dats m 0 c) 8 t ((idle8 t).trans (by simp [h])) ((flush8 t).trans (by simp [h9]))
theorem leaves8_last (c : Dev nD) (t : Fin cfg0.N) (h9 : t.val = 9) : (dats m 0 c).leavesExact 8 t = owns (c : Thread nD τ) (ms8 t) fullShare (qC m c) := by
  rw [← after8 m c t]; unfold Dat.leavesExact; rw [(idle8 t).trans (by simp [h9] : (!decide (t.val = 0)) = true), (flush8 t).trans (by simp [h9] : decide (t.val = 9) = true)]
theorem leaves9_live (c : Dev nD) (t : Fin cfg0.N) (h : t.val = 0) : (dats m 0 c).leavesExact 9 t = owns (c : Thread nD τ) (ms9 t) fullShare (srC m c) := by
  rw [← after9 m c t]; unfold Dat.leavesExact; rw [(idle9 t).trans (by simp [h] : (!decide (t.val = 0)) = false)]
theorem leaves9_idle (c : Dev nD) (t : Fin cfg0.N) (h : t.val ≠ 0) (h9 : t.val ≠ 9) : (dats m 0 c).leavesExact 9 t = iprop(∃ d, owns (c : Thread nD τ) (ms9 t) fullShare ((dats m 0 c).before 9 t d)) :=
  Dat.leavesExact_idle (dats m 0 c) 9 t ((idle9 t).trans (by simp [h])) ((flush9 t).trans (by simp [h9]))
theorem leaves9_last (c : Dev nD) (t : Fin cfg0.N) (h9 : t.val = 9) : (dats m 0 c).leavesExact 9 t = owns (c : Thread nD τ) (ms9 t) fullShare (srC m c) := by
  rw [← after9 m c t]; unfold Dat.leavesExact; rw [(idle9 t).trans (by simp [h9] : (!decide (t.val = 0)) = true), (flush9 t).trans (by simp [h9] : decide (t.val = 9) = true)]

set_option maxHeartbeats 4000000 in
/-- The body at any point: the point is the first, the last or between, and that case's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves7]
  rw [show (dats m 0 c).owesAt () t.succ = (dats m 0 c).owesAt () t.castSucc from rfl]
  rw [show (dats m 0 c).Φ t.succ = PhiS m c (t.val + 1) t.isLt from rfl, Phi_castSucc]
  have hN : t.val < 10 := lt_of_lt_of_eq t.isLt (show cfg0.N = 10 from N_0)
  by_cases h0 : t.val = 0
  · obtain rfl : t = tA := Fin.ext h0
    rw [leaves6_idle m c tA (by decide) (by decide), leaves8_live m c tA rfl, leaves9_live m c tA rfl]
    rw [show PhiS m c (tA.val) (Nat.le_of_lt tA.isLt) = Pipeline.ΦA spec0 c from rfl, PhiA_eq, PhiS_pos m c (tA.val + 1) _ (Nat.succ_ne_zero _)]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyA c (grid0.coords tA) _ _ _ _ _ _ _ _ _ _ _ _ _ _ _ _ _ _ _ _ _ _ _ _ _ _ (iblk m c 0 tA) (iblk m c 1 tA) (iblk m c 2 tA) (iblk m c 3 tA) (iblk m c 4 tA) (iblk m c 5 tA) _ ((cond1_iff tA).mpr rfl) (fun h => absurd ((cond2_iff tA).mp h) (by decide)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [H7]; · iexact H7
    isplitl [H8]; · iexact H8
    iexact H9
  by_cases h9 : t.val = 9
  · rw [leaves6_live m c t h9, leaves8_last m c t h9, leaves9_last m c t h9]
    rw [PhiS_pos m c t.val _ h0, PhiS_pos m c (t.val + 1) _ (Nat.succ_ne_zero _)]
    simp only [before8 m c t h0, before9 m c t h0]
    obtain rfl : t = tZ := Fin.ext h9
    rw [show evC m c (tZ.val + 1 - 1) _ = _ from evC_pos m c tZ.val tZ.isLt h0, show odC m c (tZ.val + 1 - 1) _ = _ from odC_pos m c tZ.val tZ.isLt h0]
    rw [show yC m c = _ from congrArg₂ (fun a b => outOf a b _) (evC_pos m c tZ.val tZ.isLt h0) (odC_pos m c tZ.val tZ.isLt h0)]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyC c (grid0.coords tZ) _ _ _ _ _ _ _ _ _ _ _ _ _ _ _ _ _ _ _ _ _ _ _ _ _ _ (iblk m c 0 tZ) (iblk m c 1 tZ) (iblk m c 2 tZ) (iblk m c 3 tZ) (iblk m c 4 tZ) (iblk m c 5 tZ) (qC m c) (srC m c) (slC m c) (evC m c (tZ.val - 1) _) (odC m c (tZ.val - 1) _) (fun h => h0 ((cond1_iff tZ).mp h)) ((cond2_iff tZ).mpr rfl) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [leaves6_idle m c t h9 h9, leaves8_idle m c t h0 h9, leaves9_idle m c t h0 h9]
    rw [PhiS_pos m c t.val _ h0, PhiS_pos m c (t.val + 1) _ (Nat.succ_ne_zero _)]
    simp only [before8 m c t h0, before9 m c t h0]
    rw [show evC m c (t.val + 1 - 1) _ = _ from evC_pos m c t.val t.isLt h0, show odC m c (t.val + 1 - 1) _ = _ from odC_pos m c t.val t.isLt h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyB c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) _ (qC m c) (srC m c) (slC m c) (evC m c (t.val - 1) _) (odC m c (t.val - 1) _) (fun h => h0 ((cond1_iff t).mp h)) (fun h => h9 ((cond2_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [H7]; · iexact H7
    isplitl [H8]; · iexists d8; iexact H8
    iexists d9; iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by rw [show cfg0.N = 10 from N_0]; decide), PhiA_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
/-- Every weakly fair execution terminates with every array of the pipeline at what the proof data says, every other
    unscoped buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Math.Exponent.lean ====
/-
The quantiser's exponent. The kernel finds the exponent field of a nonnegative number by binary search over the
bit patterns of the powers of two, then builds the scale and its inverse as bit patterns; the reference takes the
floor of the base-two logarithm and two powers of two. Here the two are shown equal.
-/
module

public import Idealize.ShloMosaic.PureOps.Ideal
public import Mathlib.Analysis.SpecialFunctions.Log.Basic
public import Mathlib.Analysis.SpecialFunctions.Pow.Real

@[expose] public section

set_option maxRecDepth 16384

noncomputable section

namespace Cert.Math

open Idealize.ShloMosaic

/-! ## The kernel's words -/

/-- One step of the search: the bit `b` is added to the field if the pattern of the sum is still at most `t`. -/
def step (t : EReal) (b f : BitVec 32) : BitVec 32 :=
  Scalar.select (Ideal.cmp .oge t (Ideal.ofBits .f32 (IntOp.shli .vector (IntOp.addi f b) 23#32))) (IntOp.addi f b) f

/-- The exponent field of `t`. -/
def field (t : EReal) : BitVec 32 :=
  step t 1#32 (step t 2#32 (step t 4#32 (step t 8#32 (step t 16#32 (step t 32#32 (step t 64#32 (step t 128#32 0#32)))))))

/-- The scale's exponent: the field less 126, but zero where the field is all zeros or all ones. -/
def expoOf (f : BitVec 32) : BitVec 32 :=
  Scalar.select (IntOp.ori (IntOp.cmpi .eq f 0#32) (IntOp.cmpi .eq f 255#32)) 0#32 (IntOp.subi f 126#32)

/-- The scale as the kernel builds it. -/
def scaleK (t : EReal) : EReal := Ideal.ofBits .f32 (IntOp.shli .vector (IntOp.addi (expoOf (field t)) 127#32) 23#32)
/-- The inverse scale as the kernel builds it. -/
def invK (t : EReal) : EReal := Ideal.ofBits .f32 (IntOp.shli .vector (IntOp.subi 127#32 (expoOf (field t))) 23#32)

/-! ## The reference's -/

/-- The scale's exponent by the logarithm. -/
def expoR (t : EReal) : EReal :=
  Scalar.select (IntOp.ori (Ideal.cmp .olt t (Ideal.ofBits .f32 0x00800000#32)) (Ideal.cmp .oeq t (Ideal.ofBits .f32 0x7F800000#32)))
    (Ideal.ofBits .f32 0x00000000#32)
    (Ideal.liftRound Int.floor (Ideal.div (Ideal.log t) (Ideal.log (Ideal.ofBits .f32 0x40000000#32))) + Ideal.ofBits .f32 0x3F800000#32)
def scaleR (t : EReal) : EReal := Ideal.exp2 (expoR t)
def invR (t : EReal) : EReal := Ideal.exp2 (Ideal.ofBits .f32 0x00000000#32 - expoR t)

/-! ## The patterns -/

/-- The number whose pattern has exponent field `g` and nothing else. -/
def pow (g : ℕ) : EReal := if g = 0 then 0 else if g = 255 then ⊤ else (((2 : ℝ) ^ ((g : ℤ) - 127) : ℝ) : EReal)

theorem shl_parts : ∀ g : Fin 256,
    ((IntOp.shli .vector (BitVec.ofNat 32 g) 23#32).extractLsb' 31 1 == 1#1) = false
    ∧ ((IntOp.shli .vector (BitVec.ofNat 32 g) 23#32).extractLsb' 23 8).toNat = g.val
    ∧ ((IntOp.shli .vector (BitVec.ofNat 32 g) 23#32).extractLsb' 0 23).toNat = 0 := by decide +kernel

theorem ofBits_shl (g : ℕ) (hg : g < 256) : Ideal.ofBits .f32 (IntOp.shli .vector (BitVec.ofNat 32 g) 23#32) = pow g := by
  obtain ⟨h1, h2, h3⟩ := shl_parts ⟨g, hg⟩
  simp only at h1 h2 h3
  unfold Ideal.ofBits Ideal.ieee pow
  simp only [show 8 + 23 = 31 from rfl, h1, h2, h3]
  by_cases h0 : g = 0
  · subst h0; simp
  by_cases h255 : g = 255
  · subst h255; simp
  · have h255' : ¬ g = 2 ^ 8 - 1 := by omega
    simp only [h0, h255, h255', if_false]
    rw [EReal.coe_eq_coe_iff]
    push_cast
    rw [zpow_sub₀ (by norm_num : (2 : ℝ) ≠ 0) _ 23]
    norm_num
    field_simp

/-! ## The search -/

theorem step_spec (t : EReal) (N : ℕ) (hp : ∀ g, g < 256 → (pow g ≤ t ↔ g ≤ N)) (b f : ℕ) (hf : f ≤ N) (hN : N < f + 2 * b) (hb : f + 2 * b ≤ 256) (hb0 : 0 < b) :
    ∃ f', step t (BitVec.ofNat 32 b) (BitVec.ofNat 32 f) = BitVec.ofNat 32 f' ∧ f' ≤ N ∧ N < f' + b ∧ f' + b ≤ 256 := by
  unfold step
  have e : IntOp.addi (BitVec.ofNat 32 f) (BitVec.ofNat 32 b) = BitVec.ofNat 32 (f + b) := by
    unfold IntOp.addi; exact (BitVec.ofNat_add f b).symm
  rw [e, ofBits_shl (f + b) (by omega)]
  by_cases h : f + b ≤ N
  · refine ⟨f + b, ?_, h, by omega, by omega⟩
    have : pow (f + b) ≤ t := (hp _ (by omega)).mpr h
    simp [Ideal.cmp, this, Scalar.select]
  · refine ⟨f, ?_, hf, by omega, by omega⟩
    have : ¬ pow (f + b) ≤ t := fun h' => h ((hp _ (by omega)).mp h')
    simp [Ideal.cmp, this, Scalar.select]

theorem field_eq (t : EReal) (N : ℕ) (hN : N < 256) (hp : ∀ g, g < 256 → (pow g ≤ t ↔ g ≤ N)) : field t = BitVec.ofNat 32 N := by
  unfold field
  obtain ⟨a, e, h1, h2, h3⟩ := step_spec t N hp 128 0 (by omega) (by omega) (by omega) (by omega)
  rw [show (128#32 : BitVec 32) = BitVec.ofNat 32 128 from rfl, show (0#32 : BitVec 32) = BitVec.ofNat 32 0 from rfl, e]; clear e
  obtain ⟨a, e, h1, h2, h3⟩ := step_spec t N hp 64 a (by omega) (by omega) (by omega) (by omega)
  rw [show (64#32 : BitVec 32) = BitVec.ofNat 32 64 from rfl, e]; clear e
  obtain ⟨a, e, h1, h2, h3⟩ := step_spec t N hp 32 a (by omega) (by omega) (by omega) (by omega)
  rw [show (32#32 : BitVec 32) = BitVec.ofNat 32 32 from rfl, e]; clear e
  obtain ⟨a, e, h1, h2, h3⟩ := step_spec t N hp 16 a (by omega) (by omega) (by omega) (by omega)
  rw [show (16#32 : BitVec 32) = BitVec.ofNat 32 16 from rfl, e]; clear e
  obtain ⟨a, e, h1, h2, h3⟩ := step_spec t N hp 8 a (by omega) (by omega) (by omega) (by omega)
  rw [show (8#32 : BitVec 32) = BitVec.ofNat 32 8 from rfl, e]; clear e
  obtain ⟨a, e, h1, h2, h3⟩ := step_spec t N hp 4 a (by omega) (by omega) (by omega) (by omega)
  rw [show (4#32 : BitVec 32) = BitVec.ofNat 32 4 from rfl, e]; clear e
  obtain ⟨a, e, h1, h2, h3⟩ := step_spec t N hp 2 a (by omega) (by omega) (by omega) (by omega)
  rw [show (2#32 : BitVec 32) = BitVec.ofNat 32 2 from rfl, e]; clear e
  obtain ⟨a, e, h1, h2, h3⟩ := step_spec t N hp 1 a (by omega) (by omega) (by omega) (by omega)
  rw [show (1#32 : BitVec 32) = BitVec.ofNat 32 1 from rfl, e]
  congr 1; omega

theorem expo_words : ∀ g : Fin 256,
    (if g.val = 0 ∨ g.val = 255 then
      IntOp.addi (expoOf (BitVec.ofNat 32 g)) 127#32 = BitVec.ofNat 32 127 ∧ IntOp.subi 127#32 (expoOf (BitVec.ofNat 32 g)) = BitVec.ofNat 32 127
    else IntOp.addi (expoOf (BitVec.ofNat 32 g)) 127#32 = BitVec.ofNat 32 (g.val + 1)
      ∧ IntOp.subi 127#32 (expoOf (BitVec.ofNat 32 g)) = BitVec.ofNat 32 (if g.val ≤ 253 then 253 - g.val else 4294967295)) := by decide +kernel

/-! ## The constants -/

theorem c_min : Ideal.ofBits .f32 0x00800000#32 = (((2 : ℝ) ^ (-126 : ℤ) : ℝ) : EReal) := by
  have := ofBits_shl 1 (by norm_num)
  rw [show IntOp.shli .vector (BitVec.ofNat 32 1) 23#32 = 0x00800000#32 by decide +kernel] at this
  rw [this]; simp [pow]
theorem c_inf : Ideal.ofBits .f32 0x7F800000#32 = ⊤ := by simp [Ideal.ofBits, Ideal.ieee]
theorem c_zero : Ideal.ofBits .f32 0x00000000#32 = 0 := by simp [Ideal.ofBits, Ideal.ieee]
theorem c_one : Ideal.ofBits .f32 0x3F800000#32 = 1 := by simp [Ideal.ofBits, Ideal.ieee, -EReal.coe_mul]; norm_num
theorem c_two : Ideal.ofBits .f32 0x40000000#32 = ((2 : ℝ) : EReal) := by simp [Ideal.ofBits, Ideal.ieee, -EReal.coe_mul]; norm_num
theorem c_sixteenth : Ideal.ofBits .f32 0x3D800000#32 = ((1 / 16 : ℝ) : EReal) := by simp [Ideal.ofBits, Ideal.ieee, -EReal.coe_mul]; norm_num

theorem pow_127 : pow 127 = 1 := by simp [pow]

/-! ## The two agree -/

/-- Where the exponent is zero both programs' scales are one. -/
theorem of_zero (t : EReal) (hf : field t = 0#32 ∨ field t = 255#32) (hr : expoR t = 0) : scaleK t = scaleR t ∧ invK t = invR t := by
  have h1 : Ideal.exp2 0 = 1 := by
    rw [← EReal.coe_zero]; show ((Real.rpow 2 0 : ℝ) : EReal) = 1; simp
  unfold scaleK invK scaleR invR
  rw [hr, c_zero, sub_zero, h1]
  have k0 := expo_words 0
  have k255 := expo_words 255
  simp only [Fin.val_zero, true_or, if_true, show ((255 : Fin 256) : ℕ) = 255 from rfl, or_true] at k0 k255
  rcases hf with h | h <;> rw [h]
  · rw [show (0#32 : BitVec 32) = BitVec.ofNat 32 0 from rfl, k0.1, k0.2, ofBits_shl 127 (by norm_num), pow_127]; exact ⟨rfl, rfl⟩
  · rw [show (255#32 : BitVec 32) = BitVec.ofNat 32 255 from rfl, k255.1, k255.2, ofBits_shl 127 (by norm_num), pow_127]; exact ⟨rfl, rfl⟩

/-- The floor of the base-two logarithm. -/
def lg (r : ℝ) : ℤ := ⌊Real.log r / Real.log 2⌋

/-- A power of two is at most `r` exactly if its exponent is at most the floor of the logarithm. -/
theorem zpow_le_iff (k : ℤ) (r : ℝ) (hr : 0 < r) : (2 : ℝ) ^ k ≤ r ↔ k ≤ lg r := by
  have hl2 : (0 : ℝ) < Real.log 2 := Real.log_pos (by norm_num)
  unfold lg
  rw [Int.le_floor, le_div_iff₀ hl2, ← Real.log_zpow, Real.log_le_log_iff (by positivity) hr]

theorem expoR_real (r : ℝ) (h0 : (2 : ℝ) ^ (-126 : ℤ) ≤ r) : expoR (r : EReal) = (((lg r + 1 : ℤ) : ℝ) : EReal) := by
  have hr : 0 < r := lt_of_lt_of_le (by positivity) h0
  have hl2 : (0 : ℝ) < Real.log 2 := Real.log_pos (by norm_num)
  unfold expoR
  rw [c_min, c_inf, c_two, c_one]
  have e1 : Ideal.cmp .olt (r : EReal) (((2 : ℝ) ^ (-126 : ℤ) : ℝ) : EReal) = 0#1 := by
    simp only [Ideal.cmp]; rw [decide_eq_false]; · rfl
    rw [EReal.coe_lt_coe_iff]; exact not_lt.mpr h0
  have e2 : Ideal.cmp .oeq (r : EReal) ⊤ = 0#1 := by simp [Ideal.cmp]
  have e3 : Ideal.log (r : EReal) = ((Real.log r : ℝ) : EReal) := by
    show (if r ≤ 0 then ⊥ else ((Real.log r : ℝ) : EReal)) = _; rw [if_neg (not_le.mpr hr)]
  have e4 : Ideal.log ((2 : ℝ) : EReal) = ((Real.log 2 : ℝ) : EReal) := by
    show (if (2 : ℝ) ≤ 0 then ⊥ else ((Real.log 2 : ℝ) : EReal)) = _; rw [if_neg (by norm_num)]
  have e5 : Ideal.div ((Real.log r : ℝ) : EReal) ((Real.log 2 : ℝ) : EReal) = ((Real.log r / Real.log 2 : ℝ) : EReal) := by
    unfold Ideal.div
    rw [if_neg (by rw [EReal.coe_eq_zero]; exact hl2.ne'), ← EReal.coe_inv, ← EReal.coe_mul]; rfl
  rw [e1, e2, e3, e4, e5]
  show ((⌊Real.log r / Real.log 2⌋ : ℝ) : EReal) + 1 = _
  rw [show ⌊Real.log r / Real.log 2⌋ = lg r from rfl, ← EReal.coe_one, ← EReal.coe_add]
  push_cast; rfl

theorem exp2_int (k : ℤ) : Ideal.exp2 (((k : ℤ) : ℝ) : EReal) = (((2 : ℝ) ^ k : ℝ) : EReal) := by
  show ((Real.rpow 2 (k : ℝ) : ℝ) : EReal) = _
  rw [show Real.rpow 2 (k : ℝ) = (2 : ℝ) ^ (k : ℝ) from rfl, Real.rpow_intCast]

/-- Of a nonnegative number below `2 ^ 126`, or of infinity, kernel and reference take the same scale and the same inverse. -/
theorem scales_eq (t : EReal) (h0 : 0 ≤ t) (h1 : t < (((2 : ℝ) ^ (126 : ℤ) : ℝ) : EReal) ∨ t = ⊤) : scaleK t = scaleR t ∧ invK t = invR t := by
  induction t using EReal.rec with
  | bot => exact absurd h0 (by simp)
  | top =>
    refine of_zero _ (.inr (field_eq ⊤ 255 (by norm_num) fun g hg => ⟨fun _ => by omega, fun _ => le_top⟩)) ?_
    unfold expoR; rw [c_inf]; simp [Ideal.cmp, Scalar.select, IntOp.ori, c_zero]
  | coe r =>
    have hr0 : 0 ≤ r := EReal.coe_nonneg.mp h0
    have hlt : r < (2 : ℝ) ^ (126 : ℤ) := by
      rcases h1 with h | h
      · exact EReal.coe_lt_coe_iff.mp h
      · exact absurd h (EReal.coe_ne_top r)
    by_cases hs : r < (2 : ℝ) ^ (-126 : ℤ)
    · refine of_zero _ (.inl (field_eq _ 0 (by norm_num) fun g hg => ?_)) ?_
      · constructor
        · intro h
          by_contra hg0
          have hg0 : g ≠ 0 := by omega
          unfold pow at h
          rw [if_neg hg0] at h
          split at h
          · exact absurd (top_le_iff.mp h) (EReal.coe_ne_top r)
          · rw [EReal.coe_le_coe_iff] at h
            have : (2 : ℝ) ^ (-126 : ℤ) ≤ (2 : ℝ) ^ ((g : ℤ) - 127) := zpow_le_zpow_right₀ (by norm_num) (by omega)
            linarith
        · intro h
          obtain rfl : g = 0 := by omega
          simpa [pow] using hr0
      · unfold expoR; rw [c_min]
        have : Ideal.cmp .olt (r : EReal) (((2 : ℝ) ^ (-126 : ℤ) : ℝ) : EReal) = 1#1 := by
          simp only [Ideal.cmp]; rw [decide_eq_true]; · rfl
          exact EReal.coe_lt_coe_iff.mpr hs
        rw [this]
        have h2 : ∀ x : BitVec 1, IntOp.ori 1#1 x = 1#1 := by decide
        rw [h2, c_zero]; rfl
    · have hs : (2 : ℝ) ^ (-126 : ℤ) ≤ r := not_lt.mp hs
      have hr : 0 < r := lt_of_lt_of_le (by positivity) hs
      have hlo : -126 ≤ lg r := (zpow_le_iff _ r hr).mp hs
      have hhi : lg r < 126 := not_le.mp fun h => absurd ((zpow_le_iff _ r hr).mpr h) (not_le.mpr hlt)
      obtain ⟨N, hN⟩ : ∃ N : ℕ, (N : ℤ) = lg r + 127 := ⟨(lg r + 127).toNat, by omega⟩
      have hf : field (r : EReal) = BitVec.ofNat 32 N := by
        refine field_eq _ N (by omega) fun g hg => ?_
        unfold pow
        by_cases hg0 : g = 0
        · subst hg0; simpa using hr0
        by_cases hg1 : g = 255
        · subst hg1; simp; omega
        rw [if_neg hg0, if_neg hg1, EReal.coe_le_coe_iff]
        rw [zpow_le_iff _ r hr]; omega
      have hw := expo_words ⟨N, by omega⟩
      simp only at hw
      rw [if_neg (by omega), if_pos (by omega)] at hw
      unfold scaleK invK scaleR invR
      rw [hf, hw.1, hw.2, expoR_real r hs, ofBits_shl _ (by omega), ofBits_shl _ (by omega), c_zero, exp2_int, zero_sub, ← EReal.coe_neg, ← Int.cast_neg, exp2_int]
      unfold pow
      rw [if_neg (by omega), if_neg (by omega), if_neg (by omega), if_neg (by omega)]
      constructor
      · congr 2; push_cast; omega
      · congr 2; omega

end Cert.Math

end
-- ==== Proof.Math.Words.lean ====
/-
The packed weights. Each byte holds two four-bit two's-complement numbers. The kernel reads four bytes as one word,
shifts and masks the word and reads the bytes back: each byte then holds one of its numbers times sixteen. The
reference takes the nibble of the byte itself and subtracts sixteen where the nibble is at least eight.
-/
module

public import Idealize.ShloMosaic.Lib.BitcastFour
public import Idealize.ShloMosaic.Lib.Pointwise
public import Idealize.ShloMosaic.PureOps.Ideal

@[expose] public section

set_option maxRecDepth 16384

noncomputable section

namespace Cert.Math

open Idealize.ShloMosaic

/-- The reference's signed low nibble. -/
def lo (w : BitVec 8) : BitVec 32 :=
  Scalar.select (IntOp.cmpi .sge (IntOp.andi (w.setWidth 32) 15#32) 8#32) (IntOp.subi (IntOp.andi (w.setWidth 32) 15#32) 16#32) (IntOp.andi (w.setWidth 32) 15#32)
/-- The reference's signed high nibble. -/
def hi (w : BitVec 8) : BitVec 32 :=
  Scalar.select (IntOp.cmpi .sge (IntOp.shrsi .vector (w.setWidth 32) 4#32) 8#32) (IntOp.subi (IntOp.shrsi .vector (w.setWidth 32) 4#32) 16#32) (IntOp.shrsi .vector (w.setWidth 32) 4#32)

theorem lo_toInt : ∀ w : BitVec 8, (w <<< 4).toInt = (lo w).toInt * 16 := by decide +kernel
theorem hi_toInt : ∀ w : BitVec 8, (w &&& 0xF0#8).toInt = (hi w).toInt * 16 := by decide +kernel

section Rows

variable {R r n : ℕ}

/-- Bytes read back from words: bit `i` of byte row `a` is a bit of word row `a / 4`. -/
theorem back_bit (g : (⟨2, ![r, n]⟩ : Shape).Idx → BitVec 32) (h : (⟨2, ![r, n]⟩ : Shape).Bitcasts 32 ⟨2, ![R, n]⟩ 8)
    (a : Fin R) (l : Fin n) (i : ℕ) (hi : i < 8) (p : Fin r) (hp : p.val = a.val / 4) :
    (bitcast ⟨2, ![R, n]⟩ 8 g h (ix2 a l)).getLsbD i = (g (ix2 p l)).getLsbD (8 * (a.val % 4) + i) := by
  rw [bitcast_getLsbD g h _ i hi (by norm_num)]
  have hrow : (⟨2, ![R, n]⟩ : Shape).row (ix2 a l) = a.val := by
    simp [Shape.row, Shape.rowAx]
  have e1 : ((⟨2, ![R, n]⟩ : Shape).row (ix2 a l) * 8 + i) % 32 = 8 * (a.val % 4) + i := by rw [hrow]; omega
  have e2 : ((⟨2, ![R, n]⟩ : Shape).row (ix2 a l) * 8 + i) / 32 = p.val := by rw [hrow]; omega
  rw [e1]
  congr 2
  funext c
  match c with
  | ⟨0, _⟩ => exact Fin.ext ((h.srcIdx_row _ _ _ ⟨0, Nat.zero_lt_two⟩ rfl).trans e2)
  | ⟨1, _⟩ => exact Fin.ext (h.srcIdx_other _ _ _ ⟨1, Nat.one_lt_two⟩ (by show ¬ 1 + 2 = 2; omega))

/-- Words read from bytes: bit `8 k + i` of word row `p` is bit `i` of byte row `4 p + k`. -/
theorem forth_bit (x : (⟨2, ![R, n]⟩ : Shape).Idx → BitVec 8) (h : (⟨2, ![R, n]⟩ : Shape).Bitcasts 8 ⟨2, ![r, n]⟩ 32)
    (a : Fin R) (l : Fin n) (i : ℕ) (hi : i < 8) (p : Fin r) (hp : p.val = a.val / 4) :
    (bitcast ⟨2, ![r, n]⟩ 32 x h (ix2 p l)).getLsbD (8 * (a.val % 4) + i) = (x (ix2 a l)).getLsbD i := by
  have e := bitcast_8_32_getLsbD_ix2 x h p l (8 * (a.val % 4) + i) (by omega) a (by rw [hp]; omega)
  have e2 : (8 * (a.val % 4) + i) % 8 = i := by omega
  rw [e2] at e
  exact e

theorem mask_bit : ∀ k : Fin 4, ∀ i : Fin 8, (4042322160#32 : BitVec 32).getLsbD (8 * k.val + i.val) = decide (4 ≤ i.val) := by decide +kernel
theorem mask8_bit : ∀ i : Fin 8, (0xF0#8 : BitVec 8).getLsbD i.val = decide (4 ≤ i.val) := by decide +kernel

/-- The kernel's high nibble, times sixteen. -/
theorem hi_word (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (hR : R = 4 * r) (a : Fin R) (l : Fin n) :
    bitcast ⟨2, ![R, n]⟩ 8 (andi (bitcast ⟨2, ![r, n]⟩ 32 x h) (broadcast ⟨2, ![r, n]⟩ 4042322160#32)) h' (ix2 a l)
      = x (ix2 a l) &&& 0xF0#8 := by
  apply BitVec.eq_of_getLsbD_eq
  intro i hi
  have hp : a.val / 4 < r := by have := a.isLt; omega
  rw [back_bit _ h' a l i hi ⟨a.val / 4, hp⟩ rfl]
  show (bitcast ⟨2, ![r, n]⟩ 32 x h (ix2 ⟨a.val / 4, hp⟩ l) &&& 4042322160#32).getLsbD _ = _
  have m1 := mask_bit ⟨a.val % 4, by omega⟩ ⟨i, hi⟩
  have m2 := mask8_bit ⟨i, hi⟩
  simp only at m1 m2
  rw [BitVec.getLsbD_and, BitVec.getLsbD_and, forth_bit x h a l i hi ⟨a.val / 4, hp⟩ rfl, m1, m2]

/-- The kernel's low nibble, times sixteen. -/
theorem lo_word (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (hR : R = 4 * r) (a : Fin R) (l : Fin n) :
    bitcast ⟨2, ![R, n]⟩ 8 (andi (shli (bitcast ⟨2, ![r, n]⟩ 32 x h) (broadcast ⟨2, ![r, n]⟩ 4#32)) (broadcast ⟨2, ![r, n]⟩ 4042322160#32)) h' (ix2 a l)
      = x (ix2 a l) <<< 4 := by
  apply BitVec.eq_of_getLsbD_eq
  intro i hi
  have hp : a.val / 4 < r := by have := a.isLt; omega
  rw [back_bit _ h' a l i hi ⟨a.val / 4, hp⟩ rfl]
  show (bitcast ⟨2, ![r, n]⟩ 32 x h (ix2 ⟨a.val / 4, hp⟩ l) <<< 4 &&& 4042322160#32).getLsbD _ = _
  have m1 := mask_bit ⟨a.val % 4, by omega⟩ ⟨i, hi⟩
  simp only at m1
  rw [BitVec.getLsbD_and, m1, BitVec.getLsbD_shiftLeft, BitVec.getLsbD_shiftLeft]
  by_cases h4 : 4 ≤ i
  · have e : 8 * (a.val % 4) + i - 4 = 8 * (a.val % 4) + (i - 4) := by omega
    rw [e, forth_bit x h a l (i - 4) (by omega) ⟨a.val / 4, hp⟩ rfl]
    simp [h4, hi, show 8 * (a.val % 4) + i < 32 by omega, show ¬ (8 * (a.val % 4) + i < 4) by omega, show ¬ i < 4 by omega]
  · simp [h4, show i < 4 by omega]

end Rows

end Cert.Math

end
-- ==== Proof.Math.Spec.lean ====
/-
What both programs compute, index by index, over the extended reals: the token scales, the activation codes, the
hidden activations, the outputs. And the one fact about the activations the exponents need: in bfloat16's range the
quantiser's threshold lies below `2 ^ 126` or is infinite.
-/
module

public import proofs.«01_k».proof.Proof.Math.Exponent
public import proofs.«01_k».proof.Proof.Math.Words

@[expose] public section

set_option maxRecDepth 16384

noncomputable section

namespace Cert.Math

open Idealize.ShloMosaic

/-- A matrix of extended reals. -/
abbrev Mat (a b : ℕ) := (⟨2, ![a, b]⟩ : Shape).Idx → EReal

/-- A row's largest magnitude over 448, whose exponent the scale takes. -/
def tOf (X : Mat 96 1024) (r : Fin 96) : EReal :=
  Finset.fold max (Ideal.ofBits .f32 0xFF800000#32) (fun k => FloatOps.absf (F := Ideal) (φ := .f32) (X (ix2 r k))) Finset.univ * Ideal.ofBits .f32 0x3B124925#32

/-- An activation's code. -/
def codeS (X : Mat 96 1024) (r : Fin 96) (l : Fin 1024) : EReal :=
  min (Ideal.ofBits .f32 0x43E00000#32) (max (Ideal.ofBits .f32 0xC3E00000#32) (X (ix2 r l) * invR (tOf X r)))

/-- A hidden activation. -/
def hidS {n : ℕ} (q : Mat 96 1024) (s : Fin 96 → EReal) (w : Mat 1024 n) (ws b : Fin n → EReal) (r : Fin 96) (l : Fin n) : EReal :=
  max ((∑ k, q (ix2 r k) * w (ix2 k l)) * s r * ws l + b l) 0

/-- A weight: the signed nibble as a number. -/
def nib (b : BitVec 32) : EReal := (((b.toInt : ℤ) : ℝ) : EReal)

/-- An output before its scale. -/
def sumS (h : Mat 96 20480) (wd : (⟨2, ![20480, 512]⟩ : Shape).Idx → BitVec 8) (f : BitVec 8 → BitVec 32) (r : Fin 96) (l : Fin 512) : EReal :=
  ∑ x : Fin 20480, h (ix2 r x) * nib (f (wd (ix2 x l)))

/-- An output. -/
def outS (h : Mat 96 20480) (wd : (⟨2, ![20480, 512]⟩ : Shape).Idx → BitVec 8) (ws : Fin 1024 → EReal) (r : Fin 96) (l : Fin 1024) : EReal :=
  (if l.val % 2 < 1 then sumS h wd lo r ⟨l.val / 2, by omega⟩ else sumS h wd hi r ⟨l.val / 2, by omega⟩) * ws l

theorem outS_congr {h h' : Mat 96 20480} (eh : h = h') {wd wd' : (⟨2, ![20480, 512]⟩ : Shape).Idx → BitVec 8} (ew : wd = wd') {ws ws' : Fin 1024 → EReal} (es : ws = ws')
    (r : Fin 96) (l : Fin 1024) : outS h wd ws r l = outS h' wd' ws' r l := by rw [eh, ew, es]

/-! ## The four results, of the six arguments -/

/-- The activations as a matrix. -/
def actS (a0 : (⟨3, ![96, 1, 1024]⟩ : Shape).Idx → EReal) : Mat 96 1024 := fun j => a0 (ix3 (j 0) 0 (j 1))

/-- The third result: the codes. -/
def res2 (a0 : (⟨3, ![96, 1, 1024]⟩ : Shape).Idx → EReal) : Mat 96 1024 := fun j => codeS (actS a0) (j 0) (j 1)

/-- The fourth result: the token scales. -/
def res3 (a0 : (⟨3, ![96, 1, 1024]⟩ : Shape).Idx → EReal) : Mat 1 96 := fun j => scaleR (tOf (actS a0) (j 1))

/-- The second result: the hidden activations. -/
def res1 (a0 : (⟨3, ![96, 1, 1024]⟩ : Shape).Idx → EReal) (a1 : Mat 1024 20480) (a2 a3 : (⟨1, ![20480]⟩ : Shape).Idx → EReal) : Mat 96 20480 := fun j =>
  hidS (res2 a0) (fun r => scaleR (tOf (actS a0) r)) a1 (fun l => a2 (ix1 l)) (fun l => a3 (ix1 l)) (j 0) (j 1)

/-- The first result: the outputs. -/
def res0 (a0 : (⟨3, ![96, 1, 1024]⟩ : Shape).Idx → EReal) (a1 : Mat 1024 20480) (a2 a3 : (⟨1, ![20480]⟩ : Shape).Idx → EReal)
    (a4 : (⟨2, ![20480, 512]⟩ : Shape).Idx → BitVec 8) (a5 : (⟨1, ![1024]⟩ : Shape).Idx → EReal) : Mat 96 1024 := fun j =>
  outS (res1 a0 a1 a2 a3) a4 (fun l => a5 (ix1 l)) (j 0) (j 1)

/-! ## The threshold's range -/

theorem c_448 : Ideal.ofBits .f32 0x3B124925#32 = ((9586981 / 2 ^ 32 : ℝ) : EReal) := by
  simp [Ideal.ofBits, Ideal.ieee, -EReal.coe_mul]; norm_num

theorem c_big : Ideal.ofBits .f32 0x7F7F0000#32 = ((255 * 2 ^ 120 : ℝ) : EReal) := by
  simp [Ideal.ofBits, Ideal.ieee, -EReal.coe_mul]; norm_num

theorem absf_nonneg (x : EReal) : 0 ≤ FloatOps.absf (F := Ideal) (φ := .f32) x := by
  show 0 ≤ max x (-x)
  rcases le_total 0 x with h | h
  · exact le_max_of_le_left h
  · exact le_max_of_le_right (by simpa using EReal.neg_le_neg_iff.mpr h)

/-- In bfloat16's range the threshold is nonnegative, and below `2 ^ 126` or infinite. -/
theorem tOf_range (X : Mat 96 1024) (r : Fin 96)
    (h : ∀ k, FloatOps.absf (F := Ideal) (φ := .f32) (X (ix2 r k)) ≤ Ideal.ofBits .f32 0x7F7F0000#32
      ∨ FloatOps.absf (F := Ideal) (φ := .f32) (X (ix2 r k)) = Ideal.ofBits .f32 0x7F800000#32) :
    0 ≤ tOf X r ∧ (tOf X r < (((2 : ℝ) ^ (126 : ℤ) : ℝ) : EReal) ∨ tOf X r = ⊤) := by
  unfold tOf
  rw [c_448]
  rw [c_big, c_inf] at h
  generalize hA : Finset.fold max (Ideal.ofBits .f32 0xFF800000#32) (fun k => FloatOps.absf (F := Ideal) (φ := .f32) (X (ix2 r k))) Finset.univ = A
  have hc : (0 : ℝ) < 9586981 / 2 ^ 32 := by norm_num
  have h0 : 0 ≤ A := by
    rw [← hA, Finset.le_fold_max]
    exact .inr ⟨0, Finset.mem_univ _, absf_nonneg _⟩
  refine ⟨mul_nonneg h0 (EReal.coe_nonneg.mpr hc.le), ?_⟩
  by_cases ht : ∃ k, FloatOps.absf (F := Ideal) (φ := .f32) (X (ix2 r k)) = (⊤ : EReal)
  · obtain ⟨k, hk⟩ := ht
    have : A = ⊤ := top_le_iff.mp (by rw [← hA, Finset.le_fold_max]; exact .inr ⟨k, Finset.mem_univ _, hk.ge⟩)
    right; rw [this, EReal.top_mul_coe_of_pos hc]
  · have hle : A ≤ ((255 * 2 ^ 120 : ℝ) : EReal) := by
      rw [← hA, Finset.fold_max_le]
      refine ⟨?_, fun k _ => (h k).resolve_right fun e => ht ⟨k, e⟩⟩
      simp [Ideal.ofBits, Ideal.ieee]
    left
    refine lt_of_le_of_lt (mul_le_mul_of_nonneg_right hle (EReal.coe_nonneg.mpr hc.le)) ?_
    rw [← EReal.coe_mul, EReal.coe_lt_coe_iff]
    norm_num

end Cert.Math

end
-- ==== Proof.Math.Sums.lean ====
/-
The sums. The kernel adds a tile's products to an accumulator at each of ten grid points, over weights sixteen times
too large, and divides by sixteen at the end; the reference sums all products at once.
-/
module

public import proofs.«01_k».proof.Proof.Math.Spec

@[expose] public section

set_option maxRecDepth 16384

noncomputable section

namespace Cert.Math

open Idealize.ShloMosaic

/-- A sum over tiles of tiles' sums is the sum over everything. -/
theorem sum_tiles (g : ℕ → EReal) (w : ℕ) : ∀ n : ℕ, ∑ s ∈ Finset.range n, ∑ k ∈ Finset.range w, g (w * s + k) = ∑ i ∈ Finset.range (w * n), g i
  | 0 => by simp
  | n + 1 => by rw [Finset.sum_range_succ, sum_tiles g w n, Nat.mul_succ, Finset.sum_range_add]

/-- An accumulator that starts from zero and takes a tile at each of ten points ends at the whole sum. -/
theorem acc_sum (f : Fin 20480 → EReal) (a : (n : ℕ) → n < 10 → EReal)
    (h0 : a 0 (by norm_num) = 0 + ∑ k : Fin 2048, f ⟨2048 * 0 + k.val, by omega⟩)
    (hs : ∀ n (h : n + 1 < 10), a (n + 1) h = a n (by omega) + ∑ k : Fin 2048, f ⟨2048 * (n + 1) + k.val, by omega⟩) :
    a 9 (by norm_num) = ∑ x, f x := by
  let g : ℕ → EReal := fun i => if h : i < 20480 then f ⟨i, h⟩ else 0
  have hg (n : ℕ) (h : n < 10) : (∑ k : Fin 2048, f ⟨2048 * n + k.val, by omega⟩) = ∑ k ∈ Finset.range 2048, g (2048 * n + k) := by
    rw [Finset.sum_range]
    refine Finset.sum_congr rfl fun k _ => ?_
    have : 2048 * n + k.val < 20480 := by omega
    simp only [g, dif_pos this]
  have ha : ∀ n (h : n < 10), a n h = ∑ s ∈ Finset.range (n + 1), ∑ k ∈ Finset.range 2048, g (2048 * s + k) := by
    intro n
    induction n with
    | zero => intro h; rw [h0, hg 0 h, zero_add, Finset.sum_range_one]
    | succ n ih => intro h; rw [hs n h, ih, hg (n + 1) h, Finset.sum_range_succ _ (n + 1)]
  rw [ha, sum_tiles, Finset.sum_range]
  refine Finset.sum_congr rfl fun k _ => ?_
  have : k.val < 20480 := k.isLt
  simp only [g, dif_pos this]

/-- The factor of sixteen taken back out of a sum. -/
theorem sum_sixteenth {n : ℕ} (h : Fin n → EReal) (b : Fin n → ℤ) :
    (∑ x, h x * (((b x * 16 : ℤ) : ℝ) : EReal)) * Ideal.ofBits .f32 0x3D800000#32 = ∑ x, h x * (((b x : ℤ) : ℝ) : EReal) := by
  rw [c_sixteenth]
  have hc : (0 : EReal) ≤ ((1 / 16 : ℝ) : EReal) := EReal.coe_nonneg.mpr (by norm_num)
  have key : ∀ s : Finset (Fin n), (∑ x ∈ s, h x * (((b x * 16 : ℤ) : ℝ) : EReal)) * ((1 / 16 : ℝ) : EReal) = ∑ x ∈ s, h x * (((b x : ℤ) : ℝ) : EReal) := by
    intro s
    induction s using Finset.induction_on with
    | empty => simp
    | insert i s hi ih =>
      rw [Finset.sum_insert hi, Finset.sum_insert hi, EReal.right_distrib_of_nonneg_of_ne_top hc (EReal.coe_ne_top _), ih, mul_assoc, ← EReal.coe_mul]
      congr 3
      push_cast; ring
  exact key _

end Cert.Math

end
-- ==== Proof.KernelIdeal.Pay.lean ====
/-
The kernel's payloads at an index: what each piece of its body computes, element by element, over the extended reals.
-/
module

public import proofs.«01_k».proof.Proof.KernelIdeal.Body
public import proofs.«01_k».proof.Proof.Math.Sums
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal.Gen Cert.Math

/-! ## The quantiser -/

/-- The threshold, spread over the lanes. -/
theorem pay5_at (x : Vec Ideal S96x1024 .bf16) (r : Fin 96) (l : Fin 128) : k0_pay5 (F := Ideal) x (ix2 r l) = tOf x r := by
  pointwise [k0_pay5, k0_pay4, tOf]

/-- A step of the search on a block. -/
def vstep (t : FVec Ideal S96x128 .f32) (b : BitVec 32) (f : IVec S96x128 32) : IVec S96x128 32 :=
  select (cmpf .oge t (bitcastToFloat .f32 (shli (addi f (broadcast S96x128 b)) (broadcast S96x128 23#32)))) (addi f (broadcast S96x128 b)) f

theorem vstep_at (t : FVec Ideal S96x128 .f32) (b : BitVec 32) (f : IVec S96x128 32) (j : S96x128.Idx) : vstep t b f j = step (t j) b (f j) := rfl

theorem pay6_eq (x : Vec Ideal S96x1024 .bf16) : k0_pay6 (F := Ideal) x =
    vstep (k0_pay5 x) 16#32 (vstep (k0_pay5 x) 32#32 (vstep (k0_pay5 x) 64#32 (vstep (k0_pay5 x) 128#32 (broadcast S96x128 0#32)))) := by
  unfold k0_pay6; generalize k0_pay5 x = t; unfold vstep; rfl

theorem pay6_at (x : Vec Ideal S96x1024 .bf16) (j : S96x128.Idx) : k0_pay6 (F := Ideal) x j =
    step (k0_pay5 x j) 16#32 (step (k0_pay5 x j) 32#32 (step (k0_pay5 x j) 64#32 (step (k0_pay5 x j) 128#32 0#32))) := by
  rw [pay6_eq, vstep_at, vstep_at, vstep_at, vstep_at]; rfl

theorem pay9_at (t : FVec Ideal S96x128 .f32) (a b : IVec S96x128 32) (c : IVec S96x128 1) (j : S96x128.Idx) : k0_pay9 (F := Ideal) t a b c j =
    expoOf (step (t j) 1#32 (step (t j) 2#32 (step (t j) 4#32 (Scalar.select (c j) (b j) (a j))))) := rfl

/-- The scale's exponent. -/
theorem expo_at (x : Vec Ideal S96x1024 .bf16) (j : S96x128.Idx) : k0_pay9 (F := Ideal) (k0_pay5 x) (k0_pay6 x) (k0_pay7 x) (k0_pay8 x) j =
    expoOf (field (k0_pay5 x j)) := by
  rw [pay9_at, show Scalar.select (k0_pay8 (F := Ideal) x j) (k0_pay7 x j) (k0_pay6 x j) = step (k0_pay5 x j) 8#32 (k0_pay6 x j) from rfl, pay6_at]; rfl

theorem pay10_at (t : FVec Ideal S96x128 .f32) (a b : IVec S96x128 32) (c : IVec S96x128 1) (j : S96x128.Idx) : k0_pay10 (F := Ideal) t a b c j =
    Ideal.ofBits .f32 (IntOp.shli .vector (IntOp.addi (k0_pay9 (F := Ideal) t a b c j) 127#32) 23#32) := rfl

/-- The scale, spread over the lanes. -/
theorem scale_at (x : Vec Ideal S96x1024 .bf16) (r : Fin 96) (l : Fin 128) :
    k0_pay10 (F := Ideal) (k0_pay5 x) (k0_pay6 x) (k0_pay7 x) (k0_pay8 x) (ix2 r l) = scaleK (tOf x r) := by
  rw [pay10_at, expo_at, pay5_at]; rfl

theorem lanes_at (x : Vec Ideal S96x1024 .bf16) (r : Fin 96) : colOf (lanesOf x) (ix2 r 0) = scaleK (tOf x r) := by
  pointwise [colOf, lanesOf, k0_pay36]
  exact scale_at x r 0

theorem scales_at (x : Vec Ideal S96x1024 .bf16) (r : Fin 96) : scalesOf x (ix2 0 r) = scaleK (tOf x r) := by
  pointwise [scalesOf, k0_pay37]
  exact scale_at x r 0

theorem codes_at (x : Vec Ideal S96x1024 .bf16) (r : Fin 96) (l : Fin 1024) : codesOf x (ix2 r l) =
    min (Ideal.ofBits .f32 0x43E00000#32) (max (Ideal.ofBits .f32 0xC3E00000#32) (x (ix2 r l) * invK (tOf x r))) := by
  pointwise [codesOf, k0_pay35, k0_pay11]
  rw [expo_at, pay5_at]
  pointwise [k0_pay4]
  rfl

/-! ## A tile -/

theorem hid_at (q : Vec Ideal S96x1024 .fp8e4m3) (s : Vec Ideal S96x128 .f32) (w : Vec Ideal S1024x2048 .fp8e4m3) (ws b : Vec Ideal S1x2048 .f32) (r : Fin 96) (l : Fin 2048) :
    hidOf q s w ws b (ix2 r l) = hidS q (fun r => colOf s (ix2 r 0)) w (fun l => ws (ix2 0 l)) (fun l => b (ix2 0 l)) r l := by
  pointwise [hidOf, k0_pay40, hidS]

theorem even_at (h : Vec Ideal S96x2048 .bf16) (wd : Vec Ideal S2048x512 .i8) (acc : Vec Ideal S96x512 .f32) (r : Fin 96) (l : Fin 512) :
    evenStep h wd acc (ix2 r l) = acc (ix2 r l) + ∑ k : Fin 2048, h (ix2 r k) * ((((lo (wd (ix2 k l))).toInt * 16 : ℤ) : ℝ) : EReal) := by
  pointwise [evenStep, k0_pay1, k0_pay42, k0_pay41]
  refine congrArg _ (Finset.sum_congr rfl fun k _ => congrArg _ ?_)
  rw [lo_word wd _ _ (by norm_num) k l, ← lo_toInt]
  rfl

theorem odd_at (h : Vec Ideal S96x2048 .bf16) (wd : Vec Ideal S2048x512 .i8) (acc : Vec Ideal S96x512 .f32) (r : Fin 96) (l : Fin 512) :
    oddStep h wd acc (ix2 r l) = acc (ix2 r l) + ∑ k : Fin 2048, h (ix2 r k) * ((((hi (wd (ix2 k l))).toInt * 16 : ℤ) : ℝ) : EReal) := by
  pointwise [oddStep, k0_pay2, k0_pay43, k0_pay41]
  refine congrArg _ (Finset.sum_congr rfl fun k _ => congrArg _ ?_)
  rw [hi_word wd _ _ (by norm_num) k l, ← hi_toInt]
  rfl

theorem zero_even (r : Fin 96) (l : Fin 512) : k0_pay38 (F := Ideal) (ix2 r l) = 0 := by
  pointwise [k0_pay38]
theorem zero_odd (r : Fin 96) (l : Fin 512) : k0_pay39 (F := Ideal) (ix2 r l) = 0 := by
  pointwise [k0_pay39]

/-! ## The interleaving -/

/-- Where a lane reads the accumulators' piece. -/
def src (s : BitVec 32) (l : ℕ) : ℕ :=
  (Scalar.select (IntOp.cmpi .slt (IntOp.addi (IntOp.shrsi .vector (BitVec.ofNat 32 l) 1#32) s) 0#32)
    (IntOp.addi (IntOp.addi (IntOp.shrsi .vector (BitVec.ofNat 32 l) 1#32) s) 128#32)
    (IntOp.addi (IntOp.shrsi .vector (BitVec.ofNat 32 l) 1#32) s)).toNat % 128

theorem src_eq (s : BitVec 32) (hs : s = 0#32 ∨ s = 64#32) (l : Fin 128) : src s l.val = s.toNat + l.val / 2 := by
  have h0 : ∀ l : Fin 128, src 0#32 l.val = (0#32 : BitVec 32).toNat + l.val / 2 := by decide +kernel
  have h1 : ∀ l : Fin 128, src 64#32 l.val = (64#32 : BitVec 32).toNat + l.val / 2 := by decide +kernel
  rcases hs with rfl | rfl
  · exact h0 l
  · exact h1 l

theorem parity : ∀ l : Fin 128, IntOp.cmpi .eq (IntOp.andi (BitVec.ofNat 32 l.val) 1#32) 0#32 = if l.val % 2 < 1 then 1#1 else 0#1 := by decide +kernel

theorem chunk_at (s : BitVec 32) (hs : s = 0#32 ∨ s = 64#32) (e o : Vec Ideal S96x128 .f32) (w : Vec Ideal S1x128 .f32) (r : Fin 96) (l : Fin 128) (p : Fin 128)
    (hp : p.val = s.toNat + l.val / 2) :
    chunk s e o w (ix2 r l) = (if l.val % 2 < 1 then e (ix2 r p) else o (ix2 r p)) * Ideal.ofBits .f32 0x3D800000#32 * w (ix2 0 l) := by
  have hsrc := src_eq s hs l
  rw [← hp] at hsrc
  unfold src at hsrc
  pointwise [chunk]
  simp only [hsrc]
  rw [parity l]
  split <;> rfl

/-- An output element of the accumulators. -/
def outK (e o : Vec Ideal S96x512 .f32) (w : Vec Ideal S1x1024 .f32) (j : S96x1024.Idx) : EReal :=
  (if (j 1).val % 2 < 1 then e (ix2 (j 0) ⟨(j 1).val / 2, by have := (j 1).isLt; change (j 1).val < 1024 at this; omega⟩)
    else o (ix2 (j 0) ⟨(j 1).val / 2, by have := (j 1).isLt; change (j 1).val < 1024 at this; omega⟩)) * Ideal.ofBits .f32 0x3D800000#32 * w (ix2 0 (j 1))

/-- A piece holds the output's elements at its place. -/
theorem piece_at (s : BitVec 32) (hs : s = 0#32 ∨ s = 64#32) (e o : Vec Ideal S96x512 .f32) (w : Vec Ideal S1x1024 .f32) (a b : ℕ) (hab : b = 2 * (a + s.toNat))
    (h1 : ∀ i, (![0, a] : Fin 2 → ℕ) i + S96x128.size i ≤ S96x512.size i) (h2 : ∀ i, (![0, b] : Fin 2 → ℕ) i + S1x128.size i ≤ S1x1024.size i)
    (h3 : ∀ i, (![0, b] : Fin 2 → ℕ) i + S96x128.size i ≤ S96x1024.size i) (x : S96x128.Idx) :
    chunk s (cut e a h1) (cut o a h1) (cutS w b h2) x = outK e o w ((Rect.unit (s := S96x1024) ![0, b] S96x128.size h3).emb x) := by
  obtain ⟨r, l, rfl⟩ : ∃ (r : Fin 96) (l : Fin 128), x = ix2 r l := ⟨x 0, x 1, (ix2_eta x).symm⟩
  have hb : b + 128 ≤ 1024 := h3 1
  have ha : a + 128 ≤ 512 := h1 1
  have hsn : s.toNat ≤ 64 := by rcases hs with rfl | rfl <;> decide
  rw [chunk_at s hs _ _ _ r l ⟨s.toNat + l.val / 2, by omega⟩ rfl]
  have he : (Rect.unit (s := S96x1024) ![0, b] S96x128.size h3).emb (ix2 r l) = ix2 r ⟨b + l.val, by omega⟩ := by
    funext i
    match i with
    | ⟨0, _⟩ => exact Fin.ext (show 0 + 1 * r.val = r.val by omega)
    | ⟨1, _⟩ => exact Fin.ext (show b + 1 * l.val = b + l.val by omega)
  rw [he]
  unfold outK
  pointwise [cut, cutS]
  have e1 : (b + l.val) % 2 = l.val % 2 := by omega
  have e2 : (b + l.val) / 2 = a + (s.toNat + l.val / 2) := by omega
  simp only [e1, e2]

/-- The output block, element by element. -/
theorem out_at (e o : Vec Ideal S96x512 .f32) (w : Vec Ideal S1x1024 .f32) (j : S96x1024.Idx) : outOf e o w j = outK e o w j := by
  unfold outOf
  refine View.canon_apply_of_pieces (outK e o w) _ ?_ j (pieces_cover e o w j)
  intro pc hpc
  unfold pieces at hpc
  rcases List.mem_cons.mp hpc with rfl | hpc
  · exact fun x => piece_at 64#32 (.inr rfl) e o w 384 896 (by decide) inb_S96x512_S96x128_0_384 inb_S1x1024_S1x128_0_896 inb_S96x1024_S96x128_0_896 x
  rcases List.mem_cons.mp hpc with rfl | hpc
  · exact fun x => piece_at 0#32 (.inl rfl) e o w 384 768 (by decide) inb_S96x512_S96x128_0_384 inb_S1x1024_S1x128_0_768 inb_S96x1024_S96x128_0_768 x
  rcases List.mem_cons.mp hpc with rfl | hpc
  · exact fun x => piece_at 64#32 (.inr rfl) e o w 256 640 (by decide) inb_S96x512_S96x128_0_256 inb_S1x1024_S1x128_0_640 inb_S96x1024_S96x128_0_640 x
  rcases List.mem_cons.mp hpc with rfl | hpc
  · exact fun x => piece_at 0#32 (.inl rfl) e o w 256 512 (by decide) inb_S96x512_S96x128_0_256 inb_S1x1024_S1x128_0_512 inb_S96x1024_S96x128_0_512 x
  rcases List.mem_cons.mp hpc with rfl | hpc
  · exact fun x => piece_at 64#32 (.inr rfl) e o w 128 384 (by decide) inb_S96x512_S96x128_0_128 inb_S1x1024_S1x128_0_384 inb_S96x1024_S96x128_0_384 x
  rcases List.mem_cons.mp hpc with rfl | hpc
  · exact fun x => piece_at 0#32 (.inl rfl) e o w 128 256 (by decide) inb_S96x512_S96x128_0_128 inb_S1x1024_S1x128_0_256 inb_S96x1024_S96x128_0_256 x
  rcases List.mem_cons.mp hpc with rfl | hpc
  · exact fun x => piece_at 64#32 (.inr rfl) e o w 0 128 (by decide) inb_S96x512_S96x128_0_0 inb_S1x1024_S1x128_0_128 inb_S96x1024_S96x128_0_128 x
  rcases List.mem_cons.mp hpc with rfl | hpc
  · exact fun x => piece_at 0#32 (.inl rfl) e o w 0 0 (by decide) inb_S96x512_S96x128_0_0 inb_S1x1024_S1x128_0_0 inb_S96x1024_S96x128_0_0 x
  nomatch hpc

end Cert.KernelIdeal.Hand

end
-- ==== Proof.KernelIdeal.Value.lean ====
/-
The kernel's four results as functions of its arguments: the blocks its windows read are tiles of the arguments, and what
the ten grid points leave is what the reference computes at once.
-/
module

public import proofs.«01_k».proof.Proof.KernelIdeal.Pay
public import proofs.«01_k».proof.Proof.KernelIdeal.Run

@[expose] public section

set_option maxRecDepth 16384

noncomputable section

namespace Cert.KernelIdeal.Hand

open Idealize.ShloMosaic Idealize.ShloMosaic.TcCoe Idealize.SL.Sem Idealize.ShloMosaic.Tactic
open Idealize.ShloMosaic.Pipeline (Dat)
open Cert.KernelIdeal.Gen Cert.Math

section Blocks

variable (m : (ℓ : Loc nD τ sig) → Buf (Elt Ideal) ℓ)

/-! ## The input blocks -/

theorem idx : ∀ t : Fin cfg0.N, win0_0.index t = ![0, 0] ∧ win0_1.index t = ![0, t.val] ∧ win0_2.index t = ![0, t.val] ∧ win0_3.index t = ![0, t.val]
    ∧ win0_4.index t = ![t.val, 0] ∧ win0_5.index t = ![0, 0] ∧ win0_7.index t = ![0, t.val] :=
  (by decide +kernel : ∀ t : Fin grid0.N, _)

theorem lt10 (t : Fin cfg0.N) : t.val < 10 := lt_of_lt_of_eq t.isLt (show cfg0.N = 10 from N_0)

/-- Column `l` of tile `t` among all. -/
def tile (n : ℕ) (h : n < 10) (l : Fin 2048) : Fin 20480 := ⟨2048 * n + l.val, by omega⟩

theorem iblk0_at (c : Dev nD) (t : Fin cfg0.N) (r : Fin 96) (l : Fin 1024) : iblk m c 0 t (ix2 r l) = actS (m ((c : Thread nD τ).loc main_arg0)) (ix2 r l) := by
  unfold actS
  blk_simp [iblk]
  entry_read
  pointwise
  refine congrArg (m ((c : Thread nD τ).loc main_arg0)) ?_
  blk_ext [idx t]

theorem iblk0 (c : Dev nD) (t : Fin cfg0.N) : iblk m c 0 t = actS (m ((c : Thread nD τ).loc main_arg0)) := by
  funext y
  obtain ⟨r, l, rfl⟩ : ∃ (r : Fin 96) (l : Fin 1024), y = ix2 r l := ⟨y 0, y 1, (ix2_eta y).symm⟩
  exact iblk0_at m c t r l

theorem iblk1 (c : Dev nD) (t : Fin cfg0.N) (k : Fin 1024) (l : Fin 2048) :
    iblk m c 1 t (ix2 k l) = m ((c : Thread nD τ).loc main_arg1) (ix2 k (tile t.val (lt10 t) l)) := by
  unfold tile
  blk_point [iblk, V, idx t]
theorem iblk2 (c : Dev nD) (t : Fin cfg0.N) (l : Fin 2048) : iblk m c 2 t (ix2 0 l) = m ((c : Thread nD τ).loc main_arg2) (ix1 (tile t.val (lt10 t) l)) := by
  unfold tile
  blk_point [iblk, V, idx t]
theorem iblk3 (c : Dev nD) (t : Fin cfg0.N) (l : Fin 2048) : iblk m c 3 t (ix2 0 l) = m ((c : Thread nD τ).loc main_arg3) (ix1 (tile t.val (lt10 t) l)) := by
  unfold tile
  blk_point [iblk, V, idx t]
theorem iblk4 (c : Dev nD) (t : Fin cfg0.N) (k : Fin 2048) (l : Fin 512) :
    iblk m c 4 t (ix2 k l) = m ((c : Thread nD τ).loc main_arg4) (ix2 (tile t.val (lt10 t) k) l) := by
  unfold tile
  blk_point [iblk, V, idx t]
theorem iblk5 (c : Dev nD) (t : Fin cfg0.N) (l : Fin 1024) : iblk m c 5 t (ix2 0 l) = m ((c : Thread nD τ).loc main_arg5) (ix1 l) := by
  blk_point [iblk, V, idx t]

/-! ## What the grid leaves -/

/-- The thresholds lie where the scales' bits are right. -/
def InRange (a0 : (⟨3, ![96, 1, 1024]⟩ : Shape).Idx → EReal) : Prop :=
  ∀ r, 0 ≤ tOf (actS a0) r ∧ (tOf (actS a0) r < (((2 : ℝ) ^ (126 : ℤ) : ℝ) : EReal) ∨ tOf (actS a0) r = ⊤)

variable (c : Dev nD) (hR : InRange (m ((c : Thread nD τ).loc main_arg0)))
include hR

theorem qC_eq : qC m c = res2 (m ((c : Thread nD τ).loc main_arg0)) := by
  funext j
  obtain ⟨r, l, rfl⟩ : ∃ (r : Fin 96) (l : Fin 1024), j = ix2 r l := ⟨j 0, j 1, (ix2_eta j).symm⟩
  unfold qC
  rw [iblk0, codes_at, (scales_eq _ (hR r).1 (hR r).2).2]
  rfl

theorem srC_eq : srC m c = res3 (m ((c : Thread nD τ).loc main_arg0)) := by
  funext j
  obtain ⟨z, r, rfl⟩ : ∃ (z : Fin 1) (r : Fin 96), j = ix2 z r := ⟨j 0, j 1, (ix2_eta j).symm⟩
  obtain rfl : z = 0 := Subsingleton.elim _ _
  unfold srC
  rw [iblk0, scales_at, (scales_eq _ (hR r).1 (hR r).2).1]
  rfl

theorem slC_at (r : Fin 96) : colOf (slC m c) (ix2 r 0) = scaleR (tOf (actS (m ((c : Thread nD τ).loc main_arg0))) r) := by
  unfold slC
  rw [iblk0, lanes_at, (scales_eq _ (hR r).1 (hR r).2).1]

/-- The kernel's hidden activations. -/
abbrev hid : Mat 96 20480 :=
  res1 (m ((c : Thread nD τ).loc main_arg0)) (m ((c : Thread nD τ).loc main_arg1)) (m ((c : Thread nD τ).loc main_arg2)) (m ((c : Thread nD τ).loc main_arg3))

theorem hC_at (t : Fin cfg0.N) (r : Fin 96) (l : Fin 2048) : hC m c t (ix2 r l) = hid m c (ix2 r (tile t.val (lt10 t) l)) := by
  unfold hC
  rw [hid_at, qC_eq m c hR]
  simp only [hidS, slC_at m c hR, iblk1, iblk2, iblk3]
  rfl

/-- The sums the accumulators hold in the end, sixteen times too large. -/
theorem evC_at (r : Fin 96) (l : Fin 512) : evC m c 9 tZ.isLt (ix2 r l) =
    ∑ x : Fin 20480, hid m c (ix2 r x) * ((((lo (m ((c : Thread nD τ).loc main_arg4) (ix2 x l))).toInt * 16 : ℤ) : ℝ) : EReal) := by
  refine acc_sum (fun x => hid m c (ix2 r x) * ((((lo (m ((c : Thread nD τ).loc main_arg4) (ix2 x l))).toInt * 16 : ℤ) : ℝ) : EReal))
    (fun n h => evC m c n (by rw [show cfg0.N = 10 from N_0]; exact h) (ix2 r l)) ?_ ?_
  · refine (even_at _ _ _ r l).trans ?_
    rw [zero_even]
    simp only [hC_at m c hR, iblk4]
    rfl
  · intro n h
    refine (even_at _ _ _ r l).trans ?_
    simp only [hC_at m c hR, iblk4]
    rfl

theorem odC_at (r : Fin 96) (l : Fin 512) : odC m c 9 tZ.isLt (ix2 r l) =
    ∑ x : Fin 20480, hid m c (ix2 r x) * ((((hi (m ((c : Thread nD τ).loc main_arg4) (ix2 x l))).toInt * 16 : ℤ) : ℝ) : EReal) := by
  refine acc_sum (fun x => hid m c (ix2 r x) * ((((hi (m ((c : Thread nD τ).loc main_arg4) (ix2 x l))).toInt * 16 : ℤ) : ℝ) : EReal))
    (fun n h => odC m c n (by rw [show cfg0.N = 10 from N_0]; exact h) (ix2 r l)) ?_ ?_
  · refine (odd_at _ _ _ r l).trans ?_
    rw [zero_odd]
    simp only [hC_at m c hR, iblk4]
    rfl
  · intro n h
    refine (odd_at _ _ _ r l).trans ?_
    simp only [hC_at m c hR, iblk4]
    rfl

theorem yC_eq : yC m c = res0 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  funext j
  obtain ⟨r, l, rfl⟩ : ∃ (r : Fin 96) (l : Fin 1024), j = ix2 r l := ⟨j 0, j 1, (ix2_eta j).symm⟩
  unfold yC
  rw [out_at]
  show (if l.val % 2 < 1 then evC m c 9 tZ.isLt (ix2 r ⟨l.val / 2, _⟩) else odC m c 9 tZ.isLt (ix2 r ⟨l.val / 2, _⟩)) * _ * iblk m c 5 tZ (ix2 0 l)
    = (if l.val % 2 < 1 then sumS _ _ lo r ⟨l.val / 2, _⟩ else sumS _ _ hi r ⟨l.val / 2, _⟩) * _
  rw [iblk5]
  refine congrArg (· * _) ?_
  split
  · rw [evC_at m c hR, sum_sixteenth]; rfl
  · rw [odC_at m c hR, sum_sixteenth]; rfl

/-! ## The arrays after the run -/

theorem arr6 : (dats m 0 c).arrAt 6 cfg0.N
    = res0 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_after_last 6 tZ (by decide +kernel) _ fun j => ?_
  blk_simp
  rw [after6, yC_eq m c hR]

theorem arr8 : (dats m 0 c).arrAt 8 cfg0.N = res2 (m ((c : Thread nD τ).loc main_arg0)) := by
  refine (dats m 0 c).arrAt_eq_of_after_last 8 tZ (by decide +kernel) _ fun j => ?_
  blk_simp
  rw [after8, qC_eq m c hR]

theorem arr9 : (dats m 0 c).arrAt 9 cfg0.N = res3 (m ((c : Thread nD τ).loc main_arg0)) := by
  refine (dats m 0 c).arrAt_eq_of_after_last 9 tZ (by decide +kernel) _ fun j => ?_
  blk_simp
  rw [after9, srC_eq m c hR]

theorem arr7 : (dats m 0 c).arrAt 7 cfg0.N
    = res1 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after7]
  obtain ⟨r, l, rfl⟩ : ∃ (r : Fin 96) (l : Fin 2048), y = ix2 r l := ⟨y 0, y 1, (ix2_eta y).symm⟩
  refine (hC_at m c hR t r l).trans (congrArg (hid m c) ?_)
  unfold tile
  blk_ext [idx t]

end Blocks

section Run

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v4_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v4_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v4_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v4_3) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 6 cfg0.N
      ∧ r.2.mem ((c : Thread nD τ).loc main_v4_1) = (dats m 0 c).arrAt 7 cfg0.N
      ∧ r.2.mem ((c : Thread nD τ).loc main_v4_2) = (dats m 0 c).arrAt 8 cfg0.N
      ∧ r.2.mem ((c : Thread nD τ).loc main_v4_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      kept_main_arg0 m r h c,
      kept_main_arg1 m r h c,
      kept_main_arg2 m r h c,
      kept_main_arg3 m r h c,
      kept_main_arg4 m r h c,
      kept_main_arg5 m r h c⟩)
    (run_main m ρ)
end Run

end Cert.KernelIdeal.Hand

end
-- ==== Proof.ReferenceIdeal.Value.lean ====
/-
The reference's four results as functions of its arguments: its one block is the whole of every array, so what the body
leaves is read index by index.
-/
module

public import proofs.«01_k».proof.Proof.Gen.ReferenceIdeal.Frame
public import proofs.«01_k».proof.Proof.Math.Spec
public import Idealize.ShloMosaic.Lib.Pipeline.ValueKit

@[expose] public section

set_option maxRecDepth 16384

noncomputable section

namespace Cert.ReferenceIdeal.Hand

open Idealize.ShloMosaic Idealize.ShloMosaic.TcCoe Idealize.SL.Sem Idealize.ShloMosaic.Tactic
open Idealize.ShloMosaic.Pipeline (Dat)
open Cert.ReferenceIdeal.Gen Cert.Math

/-! ## The payloads at an index -/

theorem pay3_at (x : Vec Ideal S96x1024 .bf16) (r : Fin 96) : k0_pay3 (F := Ideal) x (ix1 r) = expoR (tOf x r) := by
  pointwise [k0_pay3, k0_pay2, expoR, tOf]

theorem pay5_at (x : Vec Ideal S96x1024 .bf16) (j : S96x1024.Idx) : k0_pay5 (F := Ideal) x j = codeS x (j 0) (j 1) := by
  idx_vars j
  pointwise [k0_pay5, k0_pay4, k0_pay2, codeS, invR]
  rw [pay3_at]; rfl

theorem pay6_at (x : Vec Ideal S96x1024 .bf16) (j : S1x96.Idx) : k0_pay6 (F := Ideal) x j = scaleR (tOf x (j 1)) := by
  idx_vars j
  pointwise [k0_pay6, k0_pay4, k0_pay2, scaleR]
  rw [pay3_at]; rfl

theorem pay8_at (x : Vec Ideal S96x1024 .bf16) (r : Fin 96) : k0_pay8 (F := Ideal) x (ix2 r 0) = scaleR (tOf x r) := by
  pointwise [k0_pay8, k0_pay4, k0_pay2, scaleR]
  rw [pay3_at]; rfl

theorem pay9_at (x : Vec Ideal S96x1024 .bf16) (w : Vec Ideal S1024x20480 .fp8e4m3) (ws b : Vec Ideal S1x20480 .f32) (j : S96x20480.Idx) :
    k0_pay9 (F := Ideal) (k0_pay7 x w) (k0_pay8 x) ws b j
      = hidS (fun j => codeS x (j 0) (j 1)) (fun r => scaleR (tOf x r)) w (fun l => ws (ix2 0 l)) (fun l => b (ix2 0 l)) (j 0) (j 1) := by
  idx_vars j
  pointwise [k0_pay9, k0_pay7, hidS]
  rw [pay8_at]
  simp only [pay5_at]; rfl

theorem pay10_at (a : FVec Ideal S96x20480 .f32) (s : FVec Ideal S96x1 .f32) (ws b : Vec Ideal S1x20480 .f32) (wd : Vec Ideal S20480x512 .i8) (j : S96x1024.Idx) :
    k0_pay10 (F := Ideal) a s ws b wd j
      = if (j 1).val % 2 < 1 then sumS (k0_pay9 (F := Ideal) a s ws b) wd lo (j 0) ⟨(j 1).val / 2, by have := (j 1).isLt; change (j 1).val < 1024 at this; omega⟩
        else sumS (k0_pay9 (F := Ideal) a s ws b) wd hi (j 0) ⟨(j 1).val / 2, by have := (j 1).isLt; change (j 1).val < 1024 at this; omega⟩ := by
  idx_vars j
  pointwise [k0_pay10, sumS, lo, hi]
  rfl

theorem out_at (a : FVec Ideal S96x20480 .f32) (s : FVec Ideal S96x1 .f32) (ws b : Vec Ideal S1x20480 .f32) (wd : Vec Ideal S20480x512 .i8)
    (w : Vec Ideal S1x1024 .f32) (j : S96x1024.Idx) :
    k0_pay1 (F := Ideal) (k0_pay10 a s ws b wd) (k0_pay11 w) j = outS (k0_pay9 (F := Ideal) a s ws b) wd (fun l => w (ix2 0 l)) (j 0) (j 1) := by
  unfold outS
  rw [← pay10_at]
  idx_vars j
  pointwise [k0_pay1, k0_pay11]

/-! ## The input blocks -/

section Blocks

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

theorem iblk0_at (c : Dev nD) (t : Fin cfg0.N) (r : Fin 96) (l : Fin 1024) : iblk m c 0 t (ix2 r l) = actS (m ((c : Thread nD τ).loc main_arg0)) (ix2 r l) := by
  unfold actS
  blk_simp [iblk]
  entry_read
  pointwise
  refine congrArg (m ((c : Thread nD τ).loc main_arg0)) ?_
  blk_ext [idx t]

theorem iblk0 (c : Dev nD) (t : Fin cfg0.N) : iblk m c 0 t = actS (m ((c : Thread nD τ).loc main_arg0)) := by
  funext y
  obtain ⟨r, l, rfl⟩ : ∃ (r : Fin 96) (l : Fin 1024), y = ix2 r l := ⟨y 0, y 1, (ix2_eta y).symm⟩
  exact iblk0_at m c t r l

theorem iblk1 (c : Dev nD) (t : Fin cfg0.N) : iblk m c 1 t = (m ((c : Thread nD τ).loc main_arg1)) := by
  blk_ext! [iblk, V, idx t]
theorem iblk2 (c : Dev nD) (t : Fin cfg0.N) (l : Fin 20480) : iblk m c 2 t (ix2 0 l) = m ((c : Thread nD τ).loc main_arg2) (ix1 l) := by
  blk_point [iblk, V, idx t]
theorem iblk3 (c : Dev nD) (t : Fin cfg0.N) (l : Fin 20480) : iblk m c 3 t (ix2 0 l) = m ((c : Thread nD τ).loc main_arg3) (ix1 l) := by
  blk_point [iblk, V, idx t]
theorem iblk4 (c : Dev nD) (t : Fin cfg0.N) : iblk m c 4 t = (m ((c : Thread nD τ).loc main_arg4)) := by
  blk_ext! [iblk, V, idx t]
theorem iblk5 (c : Dev nD) (t : Fin cfg0.N) (l : Fin 1024) : iblk m c 5 t (ix2 0 l) = m ((c : Thread nD τ).loc main_arg5) (ix1 l) := by
  blk_point [iblk, V, idx t]

theorem ld_whole {d : Fin 2 → ℕ} {e : EltTy} (X : (⟨2, d⟩ : Shape).Idx → Elt Ideal e) (inb : ∀ a, (![0, 0] : Fin 2 → ℕ) a + d a ≤ d a) :
    View.ld (Val := Elt Ideal) X (Rect.unit (s := ⟨2, d⟩) ![0, 0] d inb) = X :=
  View.ld_unit_zero (S := ⟨2, d⟩) (by funext a; fin_cases a <;> rfl) inb X

theorem pay12_eq (x0 : Vec Ideal S96x1024 .bf16) (x1 : Vec Ideal S1024x20480 .fp8e4m3) (x2 x3 : Vec Ideal S1x20480 .f32) (x4 : Vec Ideal S20480x512 .i8)
    (x5 : Vec Ideal S1x1024 .f32) : k0_pay12 x0 x1 x2 x3 x4 x5 = k0_pay7 x0 x1 := by
  unfold k0_pay12
  rw [ld_whole, ld_whole]

theorem pay13_eq (x0 : Vec Ideal S96x1024 .bf16) (x1 : Vec Ideal S1024x20480 .fp8e4m3) (x2 x3 : Vec Ideal S1x20480 .f32) (x4 : Vec Ideal S20480x512 .i8)
    (x5 : Vec Ideal S1x1024 .f32) : k0_pay13 x0 x1 x2 x3 x4 x5 = k0_pay8 x0 := by
  unfold k0_pay13
  rw [ld_whole]

/-! ## The arrays after the run -/

theorem arr8 (c : Dev nD) : (dats m 0 c).arrAt 8 cfg0.N = res2 (m ((c : Thread nD τ).loc main_arg0)) := by
  refine (dats m 0 c).arrAt_eq_of_after_last 8 t0_0 (by decide +kernel) _ fun j => ?_
  blk_simp
  rw [after0_8]
  frame_out
  rw [iblk0]
  exact pay5_at _ _

theorem arr9 (c : Dev nD) : (dats m 0 c).arrAt 9 cfg0.N = res3 (m ((c : Thread nD τ).loc main_arg0)) := by
  refine (dats m 0 c).arrAt_eq_of_after_last 9 t0_0 (by decide +kernel) _ fun j => ?_
  blk_simp
  rw [after0_9]
  frame_out
  rw [iblk0]
  exact pay6_at _ _

/-- The hidden activations the body computes. -/
theorem hid_eq (c : Dev nD) (t : Fin cfg0.N) : k0_pay9 (F := Ideal) (k0_pay7 (iblk m c 0 t) (iblk m c 1 t)) (k0_pay8 (iblk m c 0 t)) (iblk m c 2 t) (iblk m c 3 t)
    = res1 (m ((c : Thread nD τ).loc main_arg0)) (m ((c : Thread nD τ).loc main_arg1)) (m ((c : Thread nD τ).loc main_arg2)) (m ((c : Thread nD τ).loc main_arg3)) := by
  funext j
  rw [iblk0, iblk1]
  refine (pay9_at _ _ _ _ j).trans ?_
  simp only [iblk2, iblk3]
  rfl

theorem arr7 (c : Dev nD) : (dats m 0 c).arrAt 7 cfg0.N
    = res1 (m ((c : Thread nD τ).loc main_arg0)) (m ((c : Thread nD τ).loc main_arg1)) (m ((c : Thread nD τ).loc main_arg2)) (m ((c : Thread nD τ).loc main_arg3)) := by
  refine (dats m 0 c).arrAt_eq_of_after_last 7 t0_0 (by decide +kernel) _ fun j => ?_
  blk_simp
  rw [after0_7]
  frame_out
  rw [pay12_eq, pay13_eq, hid_eq m c t0_0]

theorem arr6 (c : Dev nD) : (dats m 0 c).arrAt 6 cfg0.N
    = res0 (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_after_last 6 t0_0 (by decide +kernel) _ fun j => ?_
  blk_simp
  rw [after0_6]
  frame_out
  rw [pay12_eq, pay13_eq]
  exact (out_at _ _ _ _ _ _ j).trans (outS_congr (hid_eq m c t0_0) (iblk4 m c t0_0) (funext fun l => iblk5 m c t0_0 l) _ _)

end Blocks

section Run

variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v4_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v4_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v4_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v4_3) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 6 cfg0.N
      ∧ r.2.mem ((c : Thread nD τ).loc main_v4_1) = (dats m 0 c).arrAt 7 cfg0.N
      ∧ r.2.mem ((c : Thread nD τ).loc main_v4_2) = (dats m 0 c).arrAt 8 cfg0.N
      ∧ r.2.mem ((c : Thread nD τ).loc main_v4_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      kept_main_arg0 m r h c,
      kept_main_arg1 m r h c,
      kept_main_arg2 m r h c,
      kept_main_arg3 m r h c,
      kept_main_arg4 m r h c,
      kept_main_arg5 m r h c⟩)
    (run_main m ρ)
end Run

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Run
public import proofs.«01_k».proof.Proof.KernelIdeal.Run
public import proofs.«01_k».proof.Proof.KernelIdeal.Value
public import proofs.«01_k».proof.Proof.ReferenceIdeal.Value
public import Idealize.ShloMosaic.Adequacy
public import Idealize.ShloMosaic.Init

@[expose] public section

noncomputable section

namespace Cert.Proof

open Idealize.ShloMosaic Idealize.SL.Sem Cert.Kernel

/-- The precondition's side conditions. -/
theorem pre_facts : Cert.Pre_bf16_range.Facts := ⟨by decide, by decide⟩

/-- Where the precondition holds of the activations, the thresholds lie where the scales' bits are right. -/
theorem inRange [Cert.Pre_bf16_range.Facts] (a0 : FVec Ideal Cert.Pre_bf16_range.S96x1x1024 .bf16) (a1 : FVec Ideal Cert.Pre_bf16_range.S1024x20480 .fp8e4m3)
    (a2 a3 : FVec Ideal Cert.Pre_bf16_range.S20480 .f32) (a4 : IVec Cert.Pre_bf16_range.S20480x512 8) (a5 : FVec Ideal Cert.Pre_bf16_range.S1024 .f32)
    (h : Cert.Pre_bf16_range.fn (F := Ideal) a0 a1 a2 a3 a4 a5 = fun _ => 1#1) : Cert.KernelIdeal.Hand.InRange a0 := by
  intro r
  refine Cert.Math.tOf_range _ r fun k => ?_
  have e := congrFun h (ix3 r 0 k)
  revert e
  pointwise [Cert.Pre_bf16_range.fn]
  show BitVec.ofBool (decide (FloatOps.absf (F := Ideal) (φ := .f32) (a0 (ix3 r 0 k)) ≤ _)) ||| BitVec.ofBool (decide (FloatOps.absf (F := Ideal) (φ := .f32) (a0 (ix3 r 0 k)) = _)) = 1#1 → _
  intro e
  by_cases h1 : FloatOps.absf (F := Ideal) (φ := .f32) (a0 (ix3 r 0 k)) ≤ Ideal.ofBits .f32 0x7F7F0000#32
  · exact .inl h1
  by_cases h2 : FloatOps.absf (F := Ideal) (φ := .f32) (a0 (ix3 r 0 k)) = Ideal.ofBits .f32 0x7F800000#32
  · exact .inr h2
  rw [decide_eq_false h1, decide_eq_false h2] at e
  exact absurd e (by decide)

/-- Both programs end with the same four results. -/
theorem algebraic [hp : Cert.Pre_bf16_range.Facts] : Cert.algebraic_KernelIdeal_ReferenceIdeal_pre_bf16_range (hKernelIdeal := Cert.KernelIdeal.Gen.facts)
    (hReferenceIdeal := Cert.ReferenceIdeal.Gen.facts) (hPre_bf16_range := hp) := by
  intro m g m' g' hpre hag
  have hR (c : Dev Cert.KernelIdeal.nD) : Cert.KernelIdeal.Hand.InRange (m ((c.tc : Thread Cert.KernelIdeal.nD Cert.KernelIdeal.τ).loc Cert.KernelIdeal.main_arg0)) :=
    inRange _ _ _ _ _ _ (hpre c)
  refine ⟨fun c => Cert.Math.res0 (m (c.tc.loc Cert.KernelIdeal.main_arg0)) (m (c.tc.loc Cert.KernelIdeal.main_arg1)) (m (c.tc.loc Cert.KernelIdeal.main_arg2))
      (m (c.tc.loc Cert.KernelIdeal.main_arg3)) (m (c.tc.loc Cert.KernelIdeal.main_arg4)) (m (c.tc.loc Cert.KernelIdeal.main_arg5)),
    fun c => Cert.Math.res1 (m (c.tc.loc Cert.KernelIdeal.main_arg0)) (m (c.tc.loc Cert.KernelIdeal.main_arg1)) (m (c.tc.loc Cert.KernelIdeal.main_arg2))
      (m (c.tc.loc Cert.KernelIdeal.main_arg3)),
    fun c => Cert.Math.res2 (m (c.tc.loc Cert.KernelIdeal.main_arg0)),
    fun c => Cert.Math.res3 (m (c.tc.loc Cert.KernelIdeal.main_arg0)), ?_, ?_⟩
  · refine (θ_run _ _ _).mono (fun r h c => ?_) (Cert.KernelIdeal.Hand.run_blocks m g)
    obtain ⟨h6, h7, h8, h9, hk⟩ := h c
    exact ⟨h6.trans (Cert.KernelIdeal.Hand.arr6 m c (hR c)), h7.trans (Cert.KernelIdeal.Hand.arr7 m c (hR c)),
      h8.trans (Cert.KernelIdeal.Hand.arr8 m c (hR c)), h9.trans (Cert.KernelIdeal.Hand.arr9 m c (hR c)), hk⟩
  · refine (θ_run _ _ _).mono (fun r h c => ?_) (Cert.ReferenceIdeal.Hand.run_blocks m' g')
    obtain ⟨h6, h7, h8, h9, hk⟩ := h c
    obtain ⟨e0, e1, e2, e3, e4, e5⟩ := hag c
    beta_reduce
    rw [← e0, ← e1, ← e2, ← e3, ← e4, ← e5]
    exact ⟨h6.trans (Cert.ReferenceIdeal.Hand.arr6 m' c), h7.trans (Cert.ReferenceIdeal.Hand.arr7 m' c),
      h8.trans (Cert.ReferenceIdeal.Hand.arr8 m' c), h9.trans (Cert.ReferenceIdeal.Hand.arr9 m' c), hk⟩

theorem claim : Cert.Claim := ⟨Cert.Kernel.Gen.facts, Cert.KernelIdeal.Gen.facts, Cert.ReferenceIdeal.Gen.facts, pre_facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, algebraic (hp := pre_facts)⟩

end Cert.Proof

end
